-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v10) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S128x100000 : Shape := ⟨2, ![128, 100000]⟩
abbrev S128 : Shape := ⟨1, ![128]⟩
abbrev S100000x128 : Shape := ⟨2, ![100000, 128]⟩
abbrev S32x128 : Shape := ⟨2, ![32, 128]⟩
abbrev S384x128 : Shape := ⟨2, ![384, 128]⟩
abbrev S_ : Shape := ⟨0, ![]⟩
abbrev S16 : Shape := ⟨1, ![16]⟩
abbrev S1x16 : Shape := ⟨2, ![1, 16]⟩
abbrev S1x128 : Shape := ⟨2, ![1, 128]⟩
abbrev S4096x128 : Shape := ⟨2, ![4096, 128]⟩
abbrev S8x128 : Shape := ⟨2, ![8, 128]⟩
abbrev S1 : Shape := ⟨1, ![1]⟩
abbrev S1x1x128 : Shape := ⟨3, ![1, 1, 128]⟩
abbrev S1x1x1 : Shape := ⟨3, ![1, 1, 1]⟩

abbrev nBuf : Table → Nat
  | .hbm => 8
  | .local .tc .vmem => 11
  | .local .tc .smem => 1
  | .local .scVector .vmem => 4
  | _ => 0

abbrev bufTy : (tb : Table) → Fin (nBuf tb) → BufTy
  | .hbm, ⟨0, _⟩ => ⟨S128x100000, .f32⟩
  | .hbm, ⟨1, _⟩ => ⟨S128, .i32⟩
  | .hbm, ⟨2, _⟩ => ⟨S100000x128, .f32⟩
  | .hbm, ⟨3, _⟩ => ⟨S32x128, .f32⟩
  | .hbm, ⟨4, _⟩ => ⟨S32x128, .i32⟩
  | .hbm, ⟨5, _⟩ => ⟨S1x128, .f32⟩
  | .hbm, ⟨6, _⟩ => ⟨S1x128, .i32⟩
  | .hbm, ⟨7, _⟩ => ⟨S1, .f32⟩
  | .local .tc .vmem, ⟨0, _⟩ => ⟨S4096x128, .f32⟩
  | .local .tc .vmem, ⟨1, _⟩ => ⟨S4096x128, .f32⟩
  | .local .tc .vmem, ⟨2, _⟩ => ⟨S1x128, .f32⟩
  | .local .tc .vmem, ⟨3, _⟩ => ⟨S1x128, .i32⟩
  | .local .tc .vmem, ⟨4, _⟩ => ⟨S8x128, .f32⟩
  | .local .tc .vmem, ⟨5, _⟩ => ⟨S8x128, .i32⟩
  | .local .tc .vmem, ⟨6, _⟩ => ⟨S32x128, .f32⟩
  | .local .tc .vmem, ⟨7, _⟩ => ⟨S32x128, .i32⟩
  | .local .tc .vmem, ⟨8, _⟩ => ⟨S1x128, .f32⟩
  | .local .tc .vmem, ⟨9, _⟩ => ⟨S1x128, .i32⟩
  | .local .tc .vmem, ⟨10, _⟩ => ⟨S128, .i32⟩
  | .local .tc .smem, ⟨0, _⟩ => ⟨S1, .f32⟩
  | .local .scVector .vmem, ⟨0, _⟩ => ⟨S384x128, .f32⟩
  | .local .scVector .vmem, ⟨1, _⟩ => ⟨S384x128, .f32⟩
  | .local .scVector .vmem, ⟨2, _⟩ => ⟨S128, .f32⟩
  | .local .scVector .vmem, ⟨3, _⟩ => ⟨S128, .i32⟩
  | _, _ => ⟨S128x100000, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .smem, ⟨0, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 14 → Bool
  | ⟨0, _⟩ => false
  | ⟨1, _⟩ => false
  | ⟨2, _⟩ => false
  | ⟨3, _⟩ => false
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTables nBuf rfl bufTy 4 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1_0 : Ref sig .tc := ⟨.hbm, 3, rfl⟩
abbrev main_v1_1 : Ref sig .tc := ⟨.hbm, 4, rfl⟩
abbrev main_v2_0 : Ref sig .tc := ⟨.hbm, 5, rfl⟩
abbrev main_v2_1 : Ref sig .tc := ⟨.hbm, 6, rfl⟩
abbrev main_v3 : Ref sig .tc := ⟨.hbm, 7, rfl⟩
abbrev main_v0_scv : Ref sig .scVector := ⟨.hbm, 2, rfl⟩
abbrev main_v1_0_scv : Ref sig .scVector := ⟨.hbm, 3, rfl⟩
abbrev main_v1_1_scv : Ref sig .scVector := ⟨.hbm, 4, rfl⟩
abbrev cc1_stg0_0 : Ref sig .tc := ⟨.vmem, 0, rfl⟩
abbrev cc1_stg0_1 : Ref sig .tc := ⟨.vmem, 1, rfl⟩
abbrev cc1_stg1_0 : Ref sig .tc := ⟨.vmem, 2, rfl⟩
abbrev cc1_stg2_0 : Ref sig .tc := ⟨.vmem, 3, rfl⟩
abbrev cc1_scratch0 : Ref sig .tc := ⟨.vmem, 4, rfl⟩
abbrev cc1_scratch1 : Ref sig .tc := ⟨.vmem, 5, rfl⟩
abbrev cc2_stg0_0 : Ref sig .tc := ⟨.vmem, 6, rfl⟩
abbrev cc2_stg1_0 : Ref sig .tc := ⟨.vmem, 7, rfl⟩
abbrev cc2_stg2_0 : Ref sig .tc := ⟨.vmem, 8, rfl⟩
abbrev cc2_stg3_0 : Ref sig .tc := ⟨.vmem, 9, rfl⟩
abbrev cc2_stg4_0 : Ref sig .tc := ⟨.vmem, 10, rfl⟩
abbrev cc2_stg5_0 : Ref sig .tc := ⟨.smem, 0, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc1_sem0_0 : DmaSem sig := 4
abbrev cc1_sem0_1 : DmaSem sig := 5
abbrev cc1_sem1_0 : DmaSem sig := 6
abbrev cc1_sem2_0 : DmaSem sig := 7
abbrev cc2_sem0_0 : DmaSem sig := 8
abbrev cc2_sem1_0 : DmaSem sig := 9
abbrev cc2_sem2_0 : DmaSem sig := 10
abbrev cc2_sem3_0 : DmaSem sig := 11
abbrev cc2_sem4_0 : DmaSem sig := 12
abbrev cc2_sem5_0 : DmaSem sig := 13
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) (c0_i32 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1536_i32 : BitVec 32 := 1536#32
  let v2 : BitVec 32 := Scalar.muli v1 c1536_i32
  let v3 : BitVec 32 := Scalar.addi v2 c0_i32
  let c0_i32_0 : BitVec 32 := 0#32
  ![v3.toNat, 0]
@[reducible] def k0_t1_loop : Scf.Loop 32 :=
  let c0_i32_8 : BitVec 32 := 0#32
  let c384_i32_9 : BitVec 32 := 384#32
  let v14 : BitVec 32 := Scalar.addi c0_i32_8 c384_i32_9
  let c1_i32 : BitVec 32 := 1#32
  ⟨c0_i32_8, v14, c1_i32⟩
def k0_off2 (k0_t1 : Fin k0_t1_loop.trips) : Fin 2 → Nat :=
  let c0_i32_8 : BitVec 32 := 0#32
  let c1_i32 : BitVec 32 := 1#32
  let arg11 : BitVec 32 := Scf.iv c0_i32_8 c1_i32 k0_t1
  let v87 : Index := Scalar.indexCast arg11
  let c0_44 : Index := 0#32
  ![v87.toNat, 0]
def k0_off3 (k0_t1 : Fin k0_t1_loop.trips) : Fin 2 → Nat :=
  let c0_i32_8 : BitVec 32 := 0#32
  let c1_i32 : BitVec 32 := 1#32
  let arg11 : BitVec 32 := Scf.iv c0_i32_8 c1_i32 k0_t1
  let v93 : Index := Scalar.indexCast arg11
  let c16_45 : Index := 16#32
  ![v93.toNat, 16]
def k0_off4 (k0_t1 : Fin k0_t1_loop.trips) : Fin 2 → Nat :=
  let c0_i32_8 : BitVec 32 := 0#32
  let c1_i32 : BitVec 32 := 1#32
  let arg11 : BitVec 32 := Scf.iv c0_i32_8 c1_i32 k0_t1
  let v99 : Index := Scalar.indexCast arg11
  let c32_46 : Index := 32#32
  ![v99.toNat, 32]
def k0_off5 (k0_t1 : Fin k0_t1_loop.trips) : Fin 2 → Nat :=
  let c0_i32_8 : BitVec 32 := 0#32
  let c1_i32 : BitVec 32 := 1#32
  let arg11 : BitVec 32 := Scf.iv c0_i32_8 c1_i32 k0_t1
  let v105 : Index := Scalar.indexCast arg11
  let c48_47 : Index := 48#32
  ![v105.toNat, 48]
def k0_off6 (k0_t1 : Fin k0_t1_loop.trips) : Fin 2 → Nat :=
  let c0_i32_8 : BitVec 32 := 0#32
  let c1_i32 : BitVec 32 := 1#32
  let arg11 : BitVec 32 := Scf.iv c0_i32_8 c1_i32 k0_t1
  let v111 : Index := Scalar.indexCast arg11
  let c64_48 : Index := 64#32
  ![v111.toNat, 64]
def k0_off7 (k0_t1 : Fin k0_t1_loop.trips) : Fin 2 → Nat :=
  let c0_i32_8 : BitVec 32 := 0#32
  let c1_i32 : BitVec 32 := 1#32
  let arg11 : BitVec 32 := Scf.iv c0_i32_8 c1_i32 k0_t1
  let v117 : Index := Scalar.indexCast arg11
  let c80_49 : Index := 80#32
  ![v117.toNat, 80]
def k0_off8 (k0_t1 : Fin k0_t1_loop.trips) : Fin 2 → Nat :=
  let c0_i32_8 : BitVec 32 := 0#32
  let c1_i32 : BitVec 32 := 1#32
  let arg11 : BitVec 32 := Scf.iv c0_i32_8 c1_i32 k0_t1
  let v123 : Index := Scalar.indexCast arg11
  let c96_50 : Index := 96#32
  ![v123.toNat, 96]
def k0_off9 (k0_t1 : Fin k0_t1_loop.trips) : Fin 2 → Nat :=
  let c0_i32_8 : BitVec 32 := 0#32
  let c1_i32 : BitVec 32 := 1#32
  let arg11 : BitVec 32 := Scf.iv c0_i32_8 c1_i32 k0_t1
  let v129 : Index := Scalar.indexCast arg11
  let c112_51 : Index := 112#32
  ![v129.toNat, 112]
@[reducible] def k0_t2_loop : Scf.Loop 32 :=
  let c0_i32_16 : BitVec 32 := 0#32
  let c384_i32_17 : BitVec 32 := 384#32
  let v22 : BitVec 32 := Scalar.addi c0_i32_16 c384_i32_17
  let c1_i32_18 : BitVec 32 := 1#32
  ⟨c0_i32_16, v22, c1_i32_18⟩
def k0_off10 (k0_t2 : Fin k0_t2_loop.trips) : Fin 2 → Nat :=
  let c0_i32_16 : BitVec 32 := 0#32
  let c1_i32_18 : BitVec 32 := 1#32
  let arg11 : BitVec 32 := Scf.iv c0_i32_16 c1_i32_18 k0_t2
  let v87 : Index := Scalar.indexCast arg11
  let c0_44 : Index := 0#32
  ![v87.toNat, 0]
def k0_off11 (k0_t2 : Fin k0_t2_loop.trips) : Fin 2 → Nat :=
  let c0_i32_16 : BitVec 32 := 0#32
  let c1_i32_18 : BitVec 32 := 1#32
  let arg11 : BitVec 32 := Scf.iv c0_i32_16 c1_i32_18 k0_t2
  let v93 : Index := Scalar.indexCast arg11
  let c16_45 : Index := 16#32
  ![v93.toNat, 16]
def k0_off12 (k0_t2 : Fin k0_t2_loop.trips) : Fin 2 → Nat :=
  let c0_i32_16 : BitVec 32 := 0#32
  let c1_i32_18 : BitVec 32 := 1#32
  let arg11 : BitVec 32 := Scf.iv c0_i32_16 c1_i32_18 k0_t2
  let v99 : Index := Scalar.indexCast arg11
  let c32_46 : Index := 32#32
  ![v99.toNat, 32]
def k0_off13 (k0_t2 : Fin k0_t2_loop.trips) : Fin 2 → Nat :=
  let c0_i32_16 : BitVec 32 := 0#32
  let c1_i32_18 : BitVec 32 := 1#32
  let arg11 : BitVec 32 := Scf.iv c0_i32_16 c1_i32_18 k0_t2
  let v105 : Index := Scalar.indexCast arg11
  let c48_47 : Index := 48#32
  ![v105.toNat, 48]
def k0_off14 (k0_t2 : Fin k0_t2_loop.trips) : Fin 2 → Nat :=
  let c0_i32_16 : BitVec 32 := 0#32
  let c1_i32_18 : BitVec 32 := 1#32
  let arg11 : BitVec 32 := Scf.iv c0_i32_16 c1_i32_18 k0_t2
  let v111 : Index := Scalar.indexCast arg11
  let c64_48 : Index := 64#32
  ![v111.toNat, 64]
def k0_off15 (k0_t2 : Fin k0_t2_loop.trips) : Fin 2 → Nat :=
  let c0_i32_16 : BitVec 32 := 0#32
  let c1_i32_18 : BitVec 32 := 1#32
  let arg11 : BitVec 32 := Scf.iv c0_i32_16 c1_i32_18 k0_t2
  let v117 : Index := Scalar.indexCast arg11
  let c80_49 : Index := 80#32
  ![v117.toNat, 80]
def k0_off16 (k0_t2 : Fin k0_t2_loop.trips) : Fin 2 → Nat :=
  let c0_i32_16 : BitVec 32 := 0#32
  let c1_i32_18 : BitVec 32 := 1#32
  let arg11 : BitVec 32 := Scf.iv c0_i32_16 c1_i32_18 k0_t2
  let v123 : Index := Scalar.indexCast arg11
  let c96_50 : Index := 96#32
  ![v123.toNat, 96]
def k0_off17 (k0_t2 : Fin k0_t2_loop.trips) : Fin 2 → Nat :=
  let c0_i32_16 : BitVec 32 := 0#32
  let c1_i32_18 : BitVec 32 := 1#32
  let arg11 : BitVec 32 := Scf.iv c0_i32_16 c1_i32_18 k0_t2
  let v129 : Index := Scalar.indexCast arg11
  let c112_51 : Index := 112#32
  ![v129.toNat, 112]
@[reducible] def k0_t3_loop : Scf.Loop 32 :=
  let c0_i32_25 : BitVec 32 := 0#32
  let c384_i32_26 : BitVec 32 := 384#32
  let v30 : BitVec 32 := Scalar.addi c0_i32_25 c384_i32_26
  let c1_i32_27 : BitVec 32 := 1#32
  ⟨c0_i32_25, v30, c1_i32_27⟩
def k0_off18 (k0_t3 : Fin k0_t3_loop.trips) : Fin 2 → Nat :=
  let c0_i32_25 : BitVec 32 := 0#32
  let c1_i32_27 : BitVec 32 := 1#32
  let arg11 : BitVec 32 := Scf.iv c0_i32_25 c1_i32_27 k0_t3
  let v87 : Index := Scalar.indexCast arg11
  let c0_44 : Index := 0#32
  ![v87.toNat, 0]
def k0_off19 (k0_t3 : Fin k0_t3_loop.trips) : Fin 2 → Nat :=
  let c0_i32_25 : BitVec 32 := 0#32
  let c1_i32_27 : BitVec 32 := 1#32
  let arg11 : BitVec 32 := Scf.iv c0_i32_25 c1_i32_27 k0_t3
  let v93 : Index := Scalar.indexCast arg11
  let c16_45 : Index := 16#32
  ![v93.toNat, 16]
def k0_off20 (k0_t3 : Fin k0_t3_loop.trips) : Fin 2 → Nat :=
  let c0_i32_25 : BitVec 32 := 0#32
  let c1_i32_27 : BitVec 32 := 1#32
  let arg11 : BitVec 32 := Scf.iv c0_i32_25 c1_i32_27 k0_t3
  let v99 : Index := Scalar.indexCast arg11
  let c32_46 : Index := 32#32
  ![v99.toNat, 32]
def k0_off21 (k0_t3 : Fin k0_t3_loop.trips) : Fin 2 → Nat :=
  let c0_i32_25 : BitVec 32 := 0#32
  let c1_i32_27 : BitVec 32 := 1#32
  let arg11 : BitVec 32 := Scf.iv c0_i32_25 c1_i32_27 k0_t3
  let v105 : Index := Scalar.indexCast arg11
  let c48_47 : Index := 48#32
  ![v105.toNat, 48]
def k0_off22 (k0_t3 : Fin k0_t3_loop.trips) : Fin 2 → Nat :=
  let c0_i32_25 : BitVec 32 := 0#32
  let c1_i32_27 : BitVec 32 := 1#32
  let arg11 : BitVec 32 := Scf.iv c0_i32_25 c1_i32_27 k0_t3
  let v111 : Index := Scalar.indexCast arg11
  let c64_48 : Index := 64#32
  ![v111.toNat, 64]
def k0_off23 (k0_t3 : Fin k0_t3_loop.trips) : Fin 2 → Nat :=
  let c0_i32_25 : BitVec 32 := 0#32
  let c1_i32_27 : BitVec 32 := 1#32
  let arg11 : BitVec 32 := Scf.iv c0_i32_25 c1_i32_27 k0_t3
  let v117 : Index := Scalar.indexCast arg11
  let c80_49 : Index := 80#32
  ![v117.toNat, 80]
def k0_off24 (k0_t3 : Fin k0_t3_loop.trips) : Fin 2 → Nat :=
  let c0_i32_25 : BitVec 32 := 0#32
  let c1_i32_27 : BitVec 32 := 1#32
  let arg11 : BitVec 32 := Scf.iv c0_i32_25 c1_i32_27 k0_t3
  let v123 : Index := Scalar.indexCast arg11
  let c96_50 : Index := 96#32
  ![v123.toNat, 96]
def k0_off25 (k0_t3 : Fin k0_t3_loop.trips) : Fin 2 → Nat :=
  let c0_i32_25 : BitVec 32 := 0#32
  let c1_i32_27 : BitVec 32 := 1#32
  let arg11 : BitVec 32 := Scf.iv c0_i32_25 c1_i32_27 k0_t3
  let v129 : Index := Scalar.indexCast arg11
  let c112_51 : Index := 112#32
  ![v129.toNat, 112]
@[reducible] def k0_t4_loop : Scf.Loop 32 :=
  let c0_i32_32 : BitVec 32 := 0#32
  let c384_i32_33 : BitVec 32 := 384#32
  let v35 : BitVec 32 := Scalar.addi c0_i32_32 c384_i32_33
  let c1_i32_34 : BitVec 32 := 1#32
  ⟨c0_i32_32, v35, c1_i32_34⟩
def k0_off26 (k0_t4 : Fin k0_t4_loop.trips) : Fin 2 → Nat :=
  let c0_i32_32 : BitVec 32 := 0#32
  let c1_i32_34 : BitVec 32 := 1#32
  let arg11 : BitVec 32 := Scf.iv c0_i32_32 c1_i32_34 k0_t4
  let v87 : Index := Scalar.indexCast arg11
  let c0_44 : Index := 0#32
  ![v87.toNat, 0]
def k0_off27 (k0_t4 : Fin k0_t4_loop.trips) : Fin 2 → Nat :=
  let c0_i32_32 : BitVec 32 := 0#32
  let c1_i32_34 : BitVec 32 := 1#32
  let arg11 : BitVec 32 := Scf.iv c0_i32_32 c1_i32_34 k0_t4
  let v93 : Index := Scalar.indexCast arg11
  let c16_45 : Index := 16#32
  ![v93.toNat, 16]
def k0_off28 (k0_t4 : Fin k0_t4_loop.trips) : Fin 2 → Nat :=
  let c0_i32_32 : BitVec 32 := 0#32
  let c1_i32_34 : BitVec 32 := 1#32
  let arg11 : BitVec 32 := Scf.iv c0_i32_32 c1_i32_34 k0_t4
  let v99 : Index := Scalar.indexCast arg11
  let c32_46 : Index := 32#32
  ![v99.toNat, 32]
def k0_off29 (k0_t4 : Fin k0_t4_loop.trips) : Fin 2 → Nat :=
  let c0_i32_32 : BitVec 32 := 0#32
  let c1_i32_34 : BitVec 32 := 1#32
  let arg11 : BitVec 32 := Scf.iv c0_i32_32 c1_i32_34 k0_t4
  let v105 : Index := Scalar.indexCast arg11
  let c48_47 : Index := 48#32
  ![v105.toNat, 48]
def k0_off30 (k0_t4 : Fin k0_t4_loop.trips) : Fin 2 → Nat :=
  let c0_i32_32 : BitVec 32 := 0#32
  let c1_i32_34 : BitVec 32 := 1#32
  let arg11 : BitVec 32 := Scf.iv c0_i32_32 c1_i32_34 k0_t4
  let v111 : Index := Scalar.indexCast arg11
  let c64_48 : Index := 64#32
  ![v111.toNat, 64]
def k0_off31 (k0_t4 : Fin k0_t4_loop.trips) : Fin 2 → Nat :=
  let c0_i32_32 : BitVec 32 := 0#32
  let c1_i32_34 : BitVec 32 := 1#32
  let arg11 : BitVec 32 := Scf.iv c0_i32_32 c1_i32_34 k0_t4
  let v117 : Index := Scalar.indexCast arg11
  let c80_49 : Index := 80#32
  ![v117.toNat, 80]
def k0_off32 (k0_t4 : Fin k0_t4_loop.trips) : Fin 2 → Nat :=
  let c0_i32_32 : BitVec 32 := 0#32
  let c1_i32_34 : BitVec 32 := 1#32
  let arg11 : BitVec 32 := Scf.iv c0_i32_32 c1_i32_34 k0_t4
  let v123 : Index := Scalar.indexCast arg11
  let c96_50 : Index := 96#32
  ![v123.toNat, 96]
def k0_off33 (k0_t4 : Fin k0_t4_loop.trips) : Fin 2 → Nat :=
  let c0_i32_32 : BitVec 32 := 0#32
  let c1_i32_34 : BitVec 32 := 1#32
  let arg11 : BitVec 32 := Scf.iv c0_i32_32 c1_i32_34 k0_t4
  let v129 : Index := Scalar.indexCast arg11
  let c112_51 : Index := 112#32
  ![v129.toNat, 112]
def k0_off34 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_44_r0 : BitVec 32 := 0#32
  ![v1.toNat, 0]
abbrev grid1 : Pipeline.Grid := ⟨1, ![13], ![false]⟩

def k1_cond3 (i : grid1.Coords) : BitVec 1 :=
  let arg0 : BitVec 32 := BitVec.ofNat 32 (i 0).val
  let c12_i32_2 : BitVec 32 := 12#32
  let v6 : BitVec 1 := Scalar.cmpi .eq arg0 c12_i32_2
  let v7 : BitVec 32 := Scalar.extui v6
  let c0_i32_3 : BitVec 32 := 0#32
  let v8 : BitVec 1 := Scalar.cmpi .ne v7 c0_i32_3
  v8

def cc1_transform_0 (i : grid1.Coords) : Fin 2 → Nat :=
  let arg0 : BitVec 32 := BitVec.ofNat 32 (i 0).val
  let c12_i32 : BitVec 32 := 12#32
  let v0 : BitVec 32 := Scalar.addi c12_i32 arg0
  let c0_i32 : BitVec 32 := 0#32
  let c0_i32_0 : BitVec 32 := 0#32
  ![v0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S4096x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .i32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev grid2 : Pipeline.Grid := .none

abbrev stage2_0 : Fin 1 → Memref sig .tc .vmem S32x128 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))

abbrev stage2_1 : Fin 1 → Memref sig .tc .vmem S32x128 .i32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))

abbrev stage2_3 : Fin 1 → Memref sig .tc .vmem S1x128 .i32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))

abbrev stage2_4 : Fin 1 → Memref sig .tc .vmem S128 .i32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))

abbrev stage2_5 : Fin 1 → Memref sig .tc .smem S1 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S128x100000 : Shape := ⟨2, ![128, 100000]⟩
abbrev S128 : Shape := ⟨1, ![128]⟩
abbrev S128x5 : Shape := ⟨2, ![128, 5]⟩
abbrev S5x128 : Shape := ⟨2, ![5, 128]⟩
abbrev S1x128 : Shape := ⟨2, ![1, 128]⟩
abbrev S_ : Shape := ⟨0, ![]⟩
abbrev S1 : Shape := ⟨1, ![1]⟩

abbrev nBuf : Space → Nat
  | .hbm => 17
  | .vmem => 0
  | .smem => 0
  | _ => 0

abbrev bufTy : (tb : Table) → Fin (tcTables nBuf tb) → BufTy
  | .hbm, ⟨0, _⟩ => ⟨S128x100000, .f32⟩
  | .hbm, ⟨1, _⟩ => ⟨S128, .i32⟩
  | .hbm, ⟨2, _⟩ => ⟨S128x5, .f32⟩
  | .hbm, ⟨3, _⟩ => ⟨S128x5, .i32⟩
  | .hbm, ⟨4, _⟩ => ⟨S5x128, .i32⟩
  | .hbm, ⟨5, _⟩ => ⟨S1x128, .i32⟩
  | .hbm, ⟨6, _⟩ => ⟨S5x128, .i32⟩
  | .hbm, ⟨7, _⟩ => ⟨S5x128, .i1⟩
  | .hbm, ⟨8, _⟩ => ⟨S1x128, .i1⟩
  | .hbm, ⟨9, _⟩ => ⟨S128, .i1⟩
  | .hbm, ⟨10, _⟩ => ⟨S128, .f32⟩
  | .hbm, ⟨11, _⟩ => ⟨S_, .f32⟩
  | .hbm, ⟨12, _⟩ => ⟨S_, .f32⟩
  | .hbm, ⟨13, _⟩ => ⟨S1, .f32⟩
  | .hbm, ⟨14, _⟩ => ⟨S_, .f32⟩
  | .hbm, ⟨15, _⟩ => ⟨S1, .f32⟩
  | .hbm, ⟨16, _⟩ => ⟨S1, .f32⟩
  | _, _ => ⟨S128x100000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_values : Ref sig .tc := ⟨.hbm, 2, rfl⟩
abbrev main_indices : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_v8 : Ref sig .tc := ⟨.hbm, 13, rfl⟩
abbrev main_cst_0 : Ref sig .tc := ⟨.hbm, 14, rfl⟩
abbrev main_v9 : Ref sig .tc := ⟨.hbm, 15, rfl⟩
abbrev main_v10 : Ref sig .tc := ⟨.hbm, 16, rfl⟩

abbrev nD : Nat := 1
abbrev τ : Topo := Topo.v7x

variable {F : FTy → Type} [FloatOps F]
-- ==== Proof.TcForm.lean ====
module

public import proofs.«01_k».proof.Proof.Gen.KernelIdeal

@[expose] public section

noncomputable section

namespace Cert.Proof.Tc

open Cert.KernelIdeal Cert.KernelIdeal.Gen Idealize.ShloMosaic Idealize.SL.Sem

variable {F : FTy → Type} [FloatOps F]

/-- The eight rows that the fold reads when `n` steps follow it. -/
theorem inbRow (n : Nat) : ∀ a, (![8 * (511 - n), 0] : Fin 2 → Nat) a + S8x128.size a ≤ S4096x128.size a := by
  intro a
  match a with
  | 0 => show 8 * (511 - n) + 8 ≤ 4096; omega
  | 1 => show 0 + 128 ≤ 128; omega

/-- `n` steps of the running maximum over eight-row groups, the last `n` of the block's 512: `pre` is what is done
    to the words read before they are compared. -/
def fold (arg1 : Memref sig .tc .vmem S4096x128 .f32) (pre : Nat → Vec F S8x128 .f32 → FVec F S8x128 .f32)
    (k : FVec F S8x128 .f32 → IVec S8x128 32 → Prog (TpuEff nD τ sig (Elt F) Λ₀ .tc) PUnit) (n : Nat) :
    FVec F S8x128 .f32 → IVec S8x128 32 → IVec S8x128 32 → Prog (TpuEff nD τ sig (Elt F) Λ₀ .tc) PUnit :=
  Nat.rec (motive := fun _ => FVec F S8x128 .f32 → IVec S8x128 32 → IVec S8x128 32 → Prog (TpuEff nD τ sig (Elt F) Λ₀ .tc) PUnit)
    (fun am ai _ => k am ai)
    (fun n ih am ai oct =>
      .op (.load arg1 (Rect.unit (s := S4096x128) ![8 * (511 - n), 0] S8x128.size (inbRow n)).toLoadRect (View.loadsAt_vmem h_S8x128))
        fun v => ih (maximumf am (pre n v)) (select (cmpf .ogt (pre n v) am) oct ai) (addi oct (broadcast S8x128 1#32)))
    n

def preHot (_ : Nat) (v : Vec F S8x128 .f32) : FVec F S8x128 .f32 := shapeCast S8x128 v shapeCasts_S8x128_S8x128

def preMask (i : grid1.Coords) (n : Nat) (v : Vec F S8x128 .f32) : FVec F S8x128 .f32 :=
  select (cmpi .slt (addi (broadcast S8x128 (Scalar.addi (Scalar.muli (Scalar.addi 12#32 (BitVec.ofNat 32 (i 0).val)) 4096#32) (BitVec.ofNat 32 (8 * (511 - n)))))
      (iota .tc S8x128 32 [0] iota_S8x128_d0_w32)) (broadcast S8x128 100000#32))
    (shapeCast S8x128 v shapeCasts_S8x128_S8x128) (broadcast S8x128 (Scalar.ofBits .f32 0xFF800000#32))

section
variable (i : grid1.Coords) (arg1 : Memref sig .tc .vmem S4096x128 .f32) (harg1 : arg1.IsWhole) (arg2 : Memref sig .tc .vmem S1x128 .f32) (harg2 : arg2.IsWhole) (arg3 : Memref sig .tc .vmem S1x128 .i32) (harg3 : arg3.IsWhole) (arg4 : Memref sig .tc .vmem S8x128 .f32) (harg4 : arg4.IsWhole) (arg5 : Memref sig .tc .vmem S8x128 .i32) (harg5 : arg5.IsWhole)

/-- The last lines of a block's fold: the two running vectors stored back. -/
def putBack (k : Prog (TpuEff nD τ sig (Elt F) Λ₀ .tc) PUnit) (am : FVec F S8x128 .f32) (ai : IVec S8x128 32) : Prog (TpuEff nD τ sig (Elt F) Λ₀ .tc) PUnit := do
  let _ ← Prog.lift (.load arg4 (Rect.unit (s := S8x128) ![0, 0] S8x128.size inb_S8x128_S8x128_0_0).toLoadRect (View.loadsAt_vmem h_S8x128))
  Prog.lift (.store arg4 (Rect.unit (s := S8x128) ![0, 0] S8x128.size inb_S8x128_S8x128_0_0) (shapeCast S8x128 am shapeCasts_S8x128_S8x128) Finset.univ (View.stores_vmem_bits_univ h_S8x128 rfl) (.inl rfl))
  let _ ← Prog.lift (.load arg5 (Rect.unit (s := S8x128) ![0, 0] S8x128.size inb_S8x128_S8x128_0_0).toLoadRect (View.loadsAt_vmem h_S8x128))
  Prog.lift (.store arg5 (Rect.unit (s := S8x128) ![0, 0] S8x128.size inb_S8x128_S8x128_0_0) (shapeCast S8x128 ai shapeCasts_S8x128_S8x128) Finset.univ (View.stores_vmem_bits_univ h_S8x128 rfl) (.inl rfl))
  k

/-- A block's fold: the running vectors loaded, 512 steps, stored back, then `k`. -/
def foldAll (pre : Nat → Vec F S8x128 .f32 → FVec F S8x128 .f32) (k : Prog (TpuEff nD τ sig (Elt F) Λ₀ .tc) PUnit) : Prog (TpuEff nD τ sig (Elt F) Λ₀ .tc) PUnit := do
  let am : Vec F S8x128 .f32 ← Prog.lift (.load arg4 (Rect.unit (s := S8x128) ![0, 0] S8x128.size inb_S8x128_S8x128_0_0).toLoadRect (View.loadsAt_vmem h_S8x128))
  let ai : Vec F S8x128 .i32 ← Prog.lift (.load arg5 (Rect.unit (s := S8x128) ![0, 0] S8x128.size inb_S8x128_S8x128_0_0).toLoadRect (View.loadsAt_vmem h_S8x128))
  fold arg1 pre (putBack arg4 arg5 k) 512 am ai (broadcast S8x128 (Scalar.muli (BitVec.ofNat 32 (i 0).val) 512#32))

/-- The two running vectors reduced over their eight rows and stored as the kernel's results. -/
def finish : Prog (TpuEff nD τ sig (Elt F) Λ₀ .tc) PUnit := do
  let a : Vec F S8x128 .f32 ← Prog.lift (.load arg4 (Rect.unit (s := S8x128) ![0, 0] S8x128.size inb_S8x128_S8x128_0_0).toLoadRect (View.loadsAt_vmem h_S8x128))
  let o : Vec F S8x128 .i32 ← Prog.lift (.load arg5 (Rect.unit (s := S8x128) ![0, 0] S8x128.size inb_S8x128_S8x128_0_0).toLoadRect (View.loadsAt_vmem h_S8x128))
  let cls : IVec S8x128 32 := addi (addi (muli o (broadcast S8x128 8#32)) (iota .tc S8x128 32 [0] iota_S8x128_d0_w32)) (broadcast S8x128 49152#32)
  let mx : FVec F S1x128 .f32 := shapeCast S1x128 (multiReduction .maximumf [0] S128 a 0xFF800000#32 reduces_S8x128_S128 (.inl rfl) rfl) shapeCasts_S128_S1x128
  let cand : IVec S8x128 32 := select (cmpf .oeq a (broadcastTo S8x128 mx broadcasts_S1x128_S8x128)) cls (broadcast S8x128 1073741824#32)
  let _ ← Prog.lift (.load arg2 (Rect.unit (s := S1x128) ![0, 0] S1x128.size inb_S1x128_S1x128_0_0).toLoadRect (View.loadsAt_vmem h_S1x128))
  Prog.lift (.store arg2 (Rect.unit (s := S1x128) ![0, 0] S1x128.size inb_S1x128_S1x128_0_0) mx Finset.univ (View.stores_vmem_bits_univ h_S1x128 rfl) (.inl rfl))
  let _ ← Prog.lift (.load arg3 (Rect.unit (s := S1x128) ![0, 0] S1x128.size inb_S1x128_S1x128_0_0).toLoadRect (View.loadsAt_vmem h_S1x128))
  Prog.lift (.store arg3 (Rect.unit (s := S1x128) ![0, 0] S1x128.size inb_S1x128_S1x128_0_0)
    (shapeCast S1x128 (multiReductionI .minsi [0] S128 cand 2147483647#32 reduces_S8x128_S128 rfl) shapeCasts_S128_S1x128) Finset.univ (View.stores_vmem_bits_univ h_S1x128 rfl) (.inl rfl))
  pure ⟨⟩

/-- The running vectors set to the least value and index zero. -/
def start : Prog (TpuEff nD τ sig (Elt F) Λ₀ .tc) PUnit := do
  let _ ← Prog.lift (.load arg4 (Rect.unit (s := S8x128) ![0, 0] S8x128.size inb_S8x128_S8x128_0_0).toLoadRect (View.loadsAt_vmem h_S8x128))
  Prog.lift (.store arg4 (Rect.unit (s := S8x128) ![0, 0] S8x128.size inb_S8x128_S8x128_0_0) (shapeCast S8x128 (broadcast S8x128 (Scalar.ofBits (F := F) .f32 0xFF800000#32)) shapeCasts_S8x128_S8x128) Finset.univ (View.stores_vmem_bits_univ h_S8x128 rfl) (.inl rfl))
  let _ ← Prog.lift (.load arg5 (Rect.unit (s := S8x128) ![0, 0] S8x128.size inb_S8x128_S8x128_0_0).toLoadRect (View.loadsAt_vmem h_S8x128))
  Prog.lift (.store arg5 (Rect.unit (s := S8x128) ![0, 0] S8x128.size inb_S8x128_S8x128_0_0) (shapeCast S8x128 (broadcast S8x128 0#32) shapeCasts_S8x128_S8x128) Finset.univ (View.stores_vmem_bits_univ h_S8x128 rfl) (.inl rfl))
  pure ⟨⟩

abbrev arg0 : BitVec 32 := BitVec.ofNat 32 (i 0).val

/-- The kernel's body over the recursive fold. -/
def body : Prog (TpuEff nD τ sig (Elt F) Λ₀ .tc) PUnit := do
  if Scalar.cmpi .ne (Scalar.extui (Scalar.cmpi .eq (arg0 i) 0#32) : BitVec 32) 0#32 = 1#1 then start arg4 arg5 else pure ⟨⟩
  if Scalar.cmpi .ne (Scalar.extui (Scalar.cmpi .slt (arg0 i) 12#32) : BitVec 32) 0#32 = 1#1 then foldAll i arg1 arg4 arg5 preHot (pure ⟨⟩) else pure ⟨⟩
  if Scalar.cmpi .ne (Scalar.extui (Scalar.cmpi .eq (arg0 i) 12#32) : BitVec 32) 0#32 = 1#1 then foldAll i arg1 arg4 arg5 (preMask i) (finish arg2 arg3 arg4 arg5) else pure ⟨⟩
  pure ⟨⟩

end

end Cert.Proof.Tc

end
-- ==== Proof.ScForm.lean ====
module

public import proofs.«01_k».proof.Proof.Gen.KernelIdeal
public import proofs.«01_k».proof.Proof.Gen.KernelIdeal.Skeleton

@[expose] public section

noncomputable section

namespace Cert.Proof.Sc

open Cert.KernelIdeal Cert.KernelIdeal.Gen Idealize.ShloMosaic Idealize.SL.Sem

variable {F : FTy → Type} [FloatOps F]

/-- The eight lane groups' running maxima and the class indices that reach them. -/
abbrev St (F : FTy → Type) : Type := FVec F S16 .f32 × IVec S16 32 × FVec F S16 .f32 × IVec S16 32 × FVec F S16 .f32 × IVec S16 32 × FVec F S16 .f32 × IVec S16 32 × FVec F S16 .f32 × IVec S16 32 × FVec F S16 .f32 × IVec S16 32 × FVec F S16 .f32 × IVec S16 32 × FVec F S16 .f32 × IVec S16 32

/-- The first class index of a tile's block. -/
abbrev base (i : grid0.Coords) : BitVec 32 := Scalar.muli (Scalar.addi (Scalar.muli (BitVec.ofNat 32 (i 1).val) 2#32) (BitVec.ofNat 32 (i 0).val)) 1536#32

/-- The class index a tile compares at trip `k` of the chunk that starts at `c`. -/
def cls (i : grid0.Coords) (c : BitVec 32) (k : Fin k0_t1_loop.trips) : BitVec 32 :=
  Scalar.addi (Scalar.addi (base i) c) (Scf.iv 0#32 1#32 k)

/-- A lane group's maxima after the words `v`. -/
def stepM (a : FVec F S16 .f32) (v : Vec F S1x16 .f32) : FVec F S16 .f32 :=
  select (cmpf .ogt (shapeCast S16 v shapeCasts_S1x16_S16) a) (shapeCast S16 v shapeCasts_S1x16_S16) a

/-- A lane group's class indices after the words `v`, which are of class `x`. -/
def stepI (x : BitVec 32) (a : FVec F S16 .f32) (b : IVec S16 32) (v : Vec F S1x16 .f32) : IVec S16 32 :=
  select (cmpf .ogt (shapeCast S16 v shapeCasts_S1x16_S16) a) (broadcast S16 x) b

/-- One trip of any of the four loops: the buffer it reads and the chunk's start are its parameters. -/
def trip (i : grid0.Coords) (buf : Memref sig .scVector .vmem S384x128 .f32) (c : BitVec 32) (k : Fin k0_t1_loop.trips) :
    St F → Prog (TpuEff nD τ sig (Elt F) Λ₀ (.scVector ((i 0).castLE hcore0) ((i 1).castLE hsub0))) (St F) :=
  fun (a0, b0, a1, b1, a2, b2, a3, b3, a4, b4, a5, b5, a6, b6, a7, b7) => do
    let v0 : Vec F S1x16 .f32 ← Prog.lift (.load buf (Rect.unit (s := S384x128) (k0_off2 k) S1x16.size (k0_off2_inb k)).toLoadRect (View.loadsAt_vmem h_S1x16))
    let v1 : Vec F S1x16 .f32 ← Prog.lift (.load buf (Rect.unit (s := S384x128) (k0_off3 k) S1x16.size (k0_off3_inb k)).toLoadRect (View.loadsAt_vmem h_S1x16))
    let v2 : Vec F S1x16 .f32 ← Prog.lift (.load buf (Rect.unit (s := S384x128) (k0_off4 k) S1x16.size (k0_off4_inb k)).toLoadRect (View.loadsAt_vmem h_S1x16))
    let v3 : Vec F S1x16 .f32 ← Prog.lift (.load buf (Rect.unit (s := S384x128) (k0_off5 k) S1x16.size (k0_off5_inb k)).toLoadRect (View.loadsAt_vmem h_S1x16))
    let v4 : Vec F S1x16 .f32 ← Prog.lift (.load buf (Rect.unit (s := S384x128) (k0_off6 k) S1x16.size (k0_off6_inb k)).toLoadRect (View.loadsAt_vmem h_S1x16))
    let v5 : Vec F S1x16 .f32 ← Prog.lift (.load buf (Rect.unit (s := S384x128) (k0_off7 k) S1x16.size (k0_off7_inb k)).toLoadRect (View.loadsAt_vmem h_S1x16))
    let v6 : Vec F S1x16 .f32 ← Prog.lift (.load buf (Rect.unit (s := S384x128) (k0_off8 k) S1x16.size (k0_off8_inb k)).toLoadRect (View.loadsAt_vmem h_S1x16))
    let v7 : Vec F S1x16 .f32 ← Prog.lift (.load buf (Rect.unit (s := S384x128) (k0_off9 k) S1x16.size (k0_off9_inb k)).toLoadRect (View.loadsAt_vmem h_S1x16))
    pure (stepM a0 v0, stepI (cls i c k) a0 b0 v0, stepM a1 v1, stepI (cls i c k) a1 b1 v1, stepM a2 v2, stepI (cls i c k) a2 b2 v2, stepM a3 v3, stepI (cls i c k) a3 b3 v3,
      stepM a4 v4, stepI (cls i c k) a4 b4 v4, stepM a5 v5, stepI (cls i c k) a5 b5 v5, stepM a6 v6, stepI (cls i c k) a6 b6 v6, stepM a7 v7, stepI (cls i c k) a7 b7 v7)

section
variable (i : grid0.Coords) (arg2 : Memref sig .scVector .hbm S100000x128 .f32) (harg2 : arg2.IsWhole) (arg3 : Memref sig .scVector .hbm S32x128 .f32) (harg3 : arg3.IsWhole) (arg4 : Memref sig .scVector .hbm S32x128 .i32) (harg4 : arg4.IsWhole) (arg5 : Memref sig .scVector .vmem S384x128 .f32) (harg5 : arg5.IsWhole) (arg6 : Memref sig .scVector .vmem S384x128 .f32) (harg6 : arg6.IsWhole) (arg7 : Memref sig .scVector .vmem S128 .f32) (harg7 : arg7.IsWhole) (arg8 : Memref sig .scVector .vmem S128 .i32) (harg8 : arg8.IsWhole) (arg9 : DmaSems sig S_) (arg10 : DmaSems sig S_) (v85_r0 : DmaSems sig S_) (v85_r1 : DmaSems sig S_)

theorem t1_eq : k0_t1_body (F := F) i arg2 harg2 arg3 harg3 arg4 harg4 arg5 harg5 arg6 harg6 arg7 harg7 arg8 harg8 arg9 arg10 v85_r0 v85_r1 = trip i arg5 0#32 := rfl
theorem t2_eq : k0_t2_body (F := F) i arg2 harg2 arg3 harg3 arg4 harg4 arg5 harg5 arg6 harg6 arg7 harg7 arg8 harg8 arg9 arg10 v85_r0 v85_r1 = trip i arg6 384#32 := rfl

section
variable (v23_0 : FVec F S16 .f32) (v23_1 : IVec S16 32) (v23_2 : FVec F S16 .f32) (v23_3 : IVec S16 32) (v23_4 : FVec F S16 .f32) (v23_5 : IVec S16 32) (v23_6 : FVec F S16 .f32) (v23_7 : IVec S16 32) (v23_8 : FVec F S16 .f32) (v23_9 : IVec S16 32) (v23_10 : FVec F S16 .f32) (v23_11 : IVec S16 32) (v23_12 : FVec F S16 .f32) (v23_13 : IVec S16 32) (v23_14 : FVec F S16 .f32) (v23_15 : IVec S16 32)
theorem t3_eq : k0_t3_body (F := F) i arg2 harg2 arg3 harg3 arg4 harg4 arg5 harg5 arg6 harg6 arg7 harg7 arg8 harg8 arg9 arg10 v85_r0 v85_r1 (base i) v23_0 v23_1 v23_2 v23_3 v23_4 v23_5 v23_6 v23_7 v23_8 v23_9 v23_10 v23_11 v23_12 v23_13 v23_14 v23_15 = trip i arg5 768#32 := rfl
theorem t4_eq : k0_t4_body (F := F) i arg2 harg2 arg3 harg3 arg4 harg4 arg5 harg5 arg6 harg6 arg7 harg7 arg8 harg8 arg9 arg10 v85_r0 v85_r1 (base i) v23_0 v23_1 v23_2 v23_3 v23_4 v23_5 v23_6 v23_7 v23_8 v23_9 v23_10 v23_11 v23_12 v23_13 v23_14 v23_15 = trip i arg6 1152#32 := rfl
end
end

end Cert.Proof.Sc

end
-- ==== Proof.Spec.lean ====
module

public import proofs.«01_k».proof.Proof.Gen.KernelIdeal

@[expose] public section

noncomputable section

namespace Cert.Proof.Spec

open Cert.KernelIdeal Idealize.ShloMosaic Idealize.SL.Sem

variable {F : FTy → Type} [FloatOps F]

/-- The position of class `n`, column `b`, in the transposed scores. -/
abbrev cell (n : Nat) (b : Fin 128) : S100000x128.Idx :=
  fun | 0 => ⟨n % 100000, Nat.mod_lt _ (by decide)⟩ | 1 => b | ⟨_ + 2, h⟩ => absurd h (Nat.not_lt.2 (Nat.le_add_left _ _))

/-- The running maximum of `f 0 … f (n-1)` from minus infinity, with the label of the word that first reached it. -/
def scan (f : Nat → F .f32) (x : Nat → BitVec 32) : Nat → F .f32 × BitVec 32
  | 0 => (Scalar.ofBits .f32 0xFF800000#32, 0#32)
  | n + 1 => (Scalar.select (FloatOps.cmpf .ogt (f n) (scan f x n).1) (f n) (scan f x n).1,
      Scalar.select (FloatOps.cmpf .ogt (f n) (scan f x n).1) (x n) (scan f x n).2)

/-- What worker `w` reads in column `b`: its 1536 classes in order; and their indices. -/
def colOf (xt : Vec F S100000x128 .f32) (b : Fin 128) (w r : Nat) : F .f32 := xt (cell (1536 * w + r) b)
def clsOf (w r : Nat) : BitVec 32 := BitVec.ofNat 32 (1536 * w + r)

/-- The SparseCore call's two results: every worker's maximum of every column, and its class. -/
def scM (xt : Vec F S100000x128 .f32) : Vec F S32x128 .f32 := fun j => (scan (colOf xt (j 1) (j 0).val) (clsOf (j 0).val) 1536).1
def scI (xt : Vec F S100000x128 .f32) : Vec F S32x128 .i32 := fun j => (scan (colOf xt (j 1) (j 0).val) (clsOf (j 0).val) 1536).2

end Cert.Proof.Spec

end
-- ==== Proof.ScTrip.lean ====
module

public import proofs.«01_k».proof.Proof.ScForm
public import proofs.«01_k».proof.Proof.Spec
public import Idealize.ShloMosaic.Lib.SparseCore.Quiescent
public import Idealize.ShloMosaic.Lib.StableHlo.Run
public import Idealize.ShloMosaic.Lib.Pipeline.Kit
public import Idealize.ShloMosaic.Lib.Pipeline.Value
public import Idealize.ShloMosaic.Lib.Tactic

@[expose] public section

noncomputable section

namespace Cert.Proof.Sc

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

abbrev UH : Type := URounds (GSem nD τ sig) ℕ
abbrev UP : Type := URounds (GSem nD τ sig) Unit
abbrev UU : Type := UH × (UP × Counters)

local notation "𝕄" => MT nD τ sig (HIx 1) (Elt F) ℕ UU ℕ

abbrev 𝒱₀ : Variants := Variants.none

variable [FloatOps F]

abbrev cV (L : grid0.Coords) : Fin τ.nSC := (L 0).castLE hcore0
abbrev jV (L : grid0.Coords) : Fin τ.nSub := (L 1).castLE hsub0

open Cert.Proof.Spec

/-- The number of the worker at `L`. -/
abbrev wid (L : grid0.Coords) : Nat := 2 * (L 1).val + (L 0).val

/-- Lane `j` of group `g`. -/
abbrev col (g : Fin 8) (j : S16.Idx) : Fin 128 := ⟨16 * g.val + (j 0).val, by have := g.isLt; have h : (j 0).val < 16 := (j 0).isLt; omega⟩

/-- Group `g`'s maxima and class indices after `n` of worker `w`'s classes. -/
def mv (xt : Vec F S100000x128 .f32) (w n : Nat) (g : Fin 8) : FVec F S16 .f32 := fun j => (scan (colOf xt (col g j) w) (clsOf w) n).1
def iv (xt : Vec F S100000x128 .f32) (w n : Nat) (g : Fin 8) : IVec S16 32 := fun j => (scan (colOf xt (col g j) w) (clsOf w) n).2

/-- The loops' carried values after `n` classes. -/
def stAt (xt : Vec F S100000x128 .f32) (w n : Nat) : St F :=
  (mv xt w n 0, iv xt w n 0, mv xt w n 1, iv xt w n 1, mv xt w n 2, iv xt w n 2, mv xt w n 3, iv xt w n 3,
    mv xt w n 4, iv xt w n 4, mv xt w n 5, iv xt w n 5, mv xt w n 6, iv xt w n 6, mv xt w n 7, iv xt w n 7)

theorem stepM_eq (xt : Vec F S100000x128 .f32) (w n : Nat) (g : Fin 8) (v : Vec F S1x16 .f32)
    (hv : ∀ j : S16.Idx, v (Fin.cons ⟨0, Nat.one_pos⟩ j) = colOf xt (col g j) w n) : stepM (mv xt w n g) v = mv xt w (n + 1) g := by
  funext j
  have h : shapeCast S16 v shapeCasts_S1x16_S16 j = colOf xt (col g j) w n := (Idealize.ShloMosaic.shapeCast_dropUnit_apply ![16] v _ j).trans (hv j)
  show Scalar.select (FloatOps.cmpf .ogt (shapeCast S16 v shapeCasts_S1x16_S16 j) (mv xt w n g j)) (shapeCast S16 v shapeCasts_S1x16_S16 j) (mv xt w n g j) = _
  rw [h]; rfl

theorem stepI_eq (xt : Vec F S100000x128 .f32) (w n : Nat) (g : Fin 8) (v : Vec F S1x16 .f32) (x : BitVec 32) (hx : x = clsOf w n)
    (hv : ∀ j : S16.Idx, v (Fin.cons ⟨0, Nat.one_pos⟩ j) = colOf xt (col g j) w n) : stepI x (mv xt w n g) (iv xt w n g) v = iv xt w (n + 1) g := by
  funext j
  have h : shapeCast S16 v shapeCasts_S1x16_S16 j = colOf xt (col g j) w n := (Idealize.ShloMosaic.shapeCast_dropUnit_apply ![16] v _ j).trans (hv j)
  show Scalar.select (FloatOps.cmpf .ogt (shapeCast S16 v shapeCasts_S1x16_S16 j) (mv xt w n g j)) x (iv xt w n g j) = _
  rw [h, hx]; rfl

/-- Position `(r, b)` of a tile's chunk buffer. -/
abbrev bcell (r : Fin 384) (b : Fin 128) : S384x128.Idx := fun | 0 => r | 1 => b | ⟨_ + 2, h⟩ => absurd h (Nat.not_lt.2 (Nat.le_add_left _ _))

/-- A chunk buffer holds the classes from `c` of worker `w`'s. -/
def Holds (xt : Vec F S100000x128 .f32) (w c : Nat) (x : Vec F S384x128 .f32) : Prop :=
  ∀ (r : Fin 384) (b : Fin 128), x (bcell r b) = xt (cell (1536 * w + (c + r.val)) b)

theorem trips_eq : k0_t1_loop.trips = 384 := by decide

theorem load_eq (xt : Vec F S100000x128 .f32) (w c : Nat) (κ : Kind) (buf : Memref sig κ .vmem S384x128 .f32) (f : buf.view.ty.Contents (Elt F))
    (hh : Holds xt w c (buf.view.read (Elt F) f)) (k : Fin k0_t1_loop.trips) (g : Fin 8) (off : Fin 2 → Nat) (ho : off = ![k.val, 16 * g.val])
    (inb : ∀ a, off a + S1x16.size a ≤ S384x128.size a) (j : S16.Idx) :
    buf.view.readAt (Elt F) (Rect.unit (s := S384x128) off S1x16.size inb).toLoadRect f (Fin.cons ⟨0, Nat.one_pos⟩ j) = colOf xt (col g j) w (c + k.val) := by
  subst ho
  rw [View.readAt_apply]
  have hk : k.val < 384 := trips_eq ▸ k.isLt
  refine Eq.trans ?_ (hh ⟨k.val, hk⟩ (col g j))
  refine congrArg _ (funext fun a => Fin.ext ?_)
  match a with
  | 0 => show k.val + 1 * 0 = k.val; omega
  | 1 => show 16 * g.val + 1 * (j 0).val = 16 * g.val + (j 0).val; omega

theorem cls_eq (L : grid0.Coords) (c : Nat) (k : Fin k0_t1_loop.trips) : cls L (BitVec.ofNat 32 c) k = clsOf (wid L) (c + k.val) := by
  unfold cls clsOf wid base Scf.iv
  simp only [Scalar.addi, Scalar.muli, IntOp.addi, IntOp.muli]
  apply BitVec.eq_of_toNat_eq
  simp only [BitVec.toNat_add, BitVec.toNat_mul, BitVec.toNat_ofNat]
  omega

/-- One trip takes the carried values one class on. -/
theorem wp_trip (d : Dev nD) (L : grid0.Coords) (buf : Memref sig .scVector .vmem S384x128 .f32) (f : Buf (Elt F) (buf.view.loc (V d (cV L) (jV L))))
    (xt : Vec F S100000x128 .f32) (c : Nat) (hh : Holds xt (wid L) c (buf.view.read (Elt F) f)) (k : Fin k0_t1_loop.trips) :
    (buf.view.loc (V d (cV L) (jV L)) ↦[buf.view.set]{fullShare} f : sProp 𝕄)
      ⊢ wp frame (wpE (defs₀ (F := F)) 𝒱₀ (V d (cV L) (jV L)) none) Set.univ (trip L buf (BitVec.ofNat 32 c) k (stAt xt (wid L) (c + k.val)))
          fun s => iprop(⌜s = stAt xt (wid L) (c + (k.val + 1))⌝ ∗ buf.view.loc (V d (cV L) (jV L)) ↦[buf.view.set]{fullShare} f) := by
  unfold trip
  iintro H
  sl_exec
  sl_step
  isplitr
  · ipureintro
    have hx := cls_eq L c k
    unfold stAt
    rw [stepM_eq xt _ _ 0 _ (load_eq xt _ c _ buf f hh k 0 _ (k0_off2_eq k) _), stepI_eq xt _ _ 0 _ _ hx (load_eq xt _ c _ buf f hh k 0 _ (k0_off2_eq k) _),
      stepM_eq xt _ _ 1 _ (load_eq xt _ c _ buf f hh k 1 _ (k0_off3_eq k) _), stepI_eq xt _ _ 1 _ _ hx (load_eq xt _ c _ buf f hh k 1 _ (k0_off3_eq k) _),
      stepM_eq xt _ _ 2 _ (load_eq xt _ c _ buf f hh k 2 _ (k0_off4_eq k) _), stepI_eq xt _ _ 2 _ _ hx (load_eq xt _ c _ buf f hh k 2 _ (k0_off4_eq k) _),
      stepM_eq xt _ _ 3 _ (load_eq xt _ c _ buf f hh k 3 _ (k0_off5_eq k) _), stepI_eq xt _ _ 3 _ _ hx (load_eq xt _ c _ buf f hh k 3 _ (k0_off5_eq k) _),
      stepM_eq xt _ _ 4 _ (load_eq xt _ c _ buf f hh k 4 _ (k0_off6_eq k) _), stepI_eq xt _ _ 4 _ _ hx (load_eq xt _ c _ buf f hh k 4 _ (k0_off6_eq k) _),
      stepM_eq xt _ _ 5 _ (load_eq xt _ c _ buf f hh k 5 _ (k0_off7_eq k) _), stepI_eq xt _ _ 5 _ _ hx (load_eq xt _ c _ buf f hh k 5 _ (k0_off7_eq k) _),
      stepM_eq xt _ _ 6 _ (load_eq xt _ c _ buf f hh k 6 _ (k0_off8_eq k) _), stepI_eq xt _ _ 6 _ _ hx (load_eq xt _ c _ buf f hh k 6 _ (k0_off8_eq k) _),
      stepM_eq xt _ _ 7 _ (load_eq xt _ c _ buf f hh k 7 _ (k0_off9_eq k) _), stepI_eq xt _ _ 7 _ _ hx (load_eq xt _ c _ buf f hh k 7 _ (k0_off9_eq k) _)]
    rfl
  · iexact H

end Cert.Proof.Sc

end
-- ==== Proof.TcWp.lean ====
module

public import proofs.«01_k».proof.Proof.TcForm
public import proofs.«01_k».proof.Proof.ScTrip
public import Idealize.ShloMosaic.Lib.Tactic
public import Idealize.ShloMosaic.Lib.VecWindow

@[expose] public section

noncomputable section

namespace Cert.Proof.Tc

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Cert.Proof.Spec
open Cert.Proof.Sc (UU 𝒱₀)

variable {F : FTy → Type} [FloatOps F]

local notation "𝕄" => MT nD τ sig (HIx 1) (Elt F) ℕ UU ℕ

/-- What sublane `s` of the fold compares in column `b` at step `n`: class `49152 + 8n + s`, minus infinity past the last class. -/
def tcCol (x : Vec F S100000x128 .f32) (s : Fin 8) (b : Fin 128) (n : Nat) : F .f32 :=
  if 49152 + (8 * n + s.val) < 100000 then x (cell (49152 + (8 * n + s.val)) b) else Scalar.ofBits .f32 0xFF800000#32

/-- The running maximum of `f 0 … f (n-1)` from minus infinity as the fold takes it, and the step that first reached it. -/
def fmax (f : Nat → F .f32) : Nat → F .f32 × BitVec 32
  | 0 => (Scalar.ofBits .f32 0xFF800000#32, 0#32)
  | n + 1 => (FloatOps.maximumf (fmax f n).1 (f n), Scalar.select (FloatOps.cmpf .ogt (f n) (fmax f n).1) (BitVec.ofNat 32 n) (fmax f n).2)

/-- The running vectors after `n` steps. -/
def tcM (x : Vec F S100000x128 .f32) (n : Nat) : FVec F S8x128 .f32 := fun j => (fmax (tcCol x (j 0) (j 1)) n).1
def tcI (x : Vec F S100000x128 .f32) (n : Nat) : IVec S8x128 32 := fun j => (fmax (tcCol x (j 0) (j 1)) n).2

/-- Position `(r, b)` of a block. -/
abbrev rcell (r : Fin 4096) (b : Fin 128) : S4096x128.Idx := fun | 0 => r | 1 => b | ⟨_ + 2, h⟩ => absurd h (Nat.not_lt.2 (Nat.le_add_left _ _))

/-- `pre` makes of the words read at each step what the fold compares, in block `t`. -/
def Reads (x : Vec F S100000x128 .f32) (t : Nat) (X : Vec F S4096x128 .f32) (pre : Nat → Vec F S8x128 .f32 → FVec F S8x128 .f32) : Prop :=
  ∀ (n : Nat) (h : n < 512) (v : Vec F S8x128 .f32),
    (∀ j : S8x128.Idx, v j = X (rcell ⟨8 * (511 - n) + (j 0).val, by have h : (j 0).val < 8 := (j 0).isLt; omega⟩ (j 1))) →
      pre n v = fun j => tcCol x (j 0) (j 1) (512 * t + (511 - n))

theorem step_oct (n : Nat) : addi (broadcast S8x128 (BitVec.ofNat 32 n)) (broadcast S8x128 1#32) = broadcast S8x128 (BitVec.ofNat 32 (n + 1)) := by
  funext j
  show BitVec.ofNat 32 n + 1#32 = BitVec.ofNat 32 (n + 1)
  rw [BitVec.ofNat_add]

theorem step_m (x : Vec F S100000x128 .f32) (n : Nat) (p : FVec F S8x128 .f32) (hp : p = fun j => tcCol x (j 0) (j 1) n) :
    maximumf (tcM x n) p = tcM x (n + 1) := by subst hp; rfl
theorem step_i (x : Vec F S100000x128 .f32) (n : Nat) (p : FVec F S8x128 .f32) (hp : p = fun j => tcCol x (j 0) (j 1) n) :
    select (cmpf .ogt p (tcM x n)) (broadcast S8x128 (BitVec.ofNat 32 n)) (tcI x n) = tcI x (n + 1) := by subst hp; rfl

variable (d : Dev nD)

theorem wp_fold (x : Vec F S100000x128 .f32) (t : Nat) (buf : Memref sig .tc .vmem S4096x128 .f32) (f : Buf (Elt F) (buf.view.loc (T d)))
    (pre : Nat → Vec F S8x128 .f32 → FVec F S8x128 .f32) (hp : Reads x t (buf.view.read (Elt F) f) pre)
    (k : FVec F S8x128 .f32 → IVec S8x128 32 → Prog (TpuEff nD τ sig (Elt F) Λ₀ .tc) PUnit) (Q : PUnit → sProp 𝕄) :
    ∀ n, n ≤ 512 →
    iprop((buf.view.loc (T d) ↦[buf.view.set]{fullShare} f)
        ∗ ((buf.view.loc (T d) ↦[buf.view.set]{fullShare} f) -∗ wp frame (wpE (defs₀ (F := F)) 𝒱₀ (T d) none) Set.univ (k (tcM x (512 * t + 512)) (tcI x (512 * t + 512))) Q))
      ⊢ wp frame (wpE (defs₀ (F := F)) 𝒱₀ (T d) none) Set.univ
          (fold buf pre k n (tcM x (512 * t + (512 - n))) (tcI x (512 * t + (512 - n))) (broadcast S8x128 (BitVec.ofNat 32 (512 * t + (512 - n))))) Q := by
  intro n
  induction n with
  | zero =>
    intro _
    show _ ⊢ wp frame (wpE (defs₀ (F := F)) 𝒱₀ (T d) none) Set.univ (k _ _) Q
    iintro ⟨H, Hk⟩
    iapply Hk; iexact H
  | succ n ih =>
    intro hn
    have e : 512 * t + (512 - (n + 1)) = 512 * t + (511 - n) := by omega
    have e' : 512 * t + (511 - n) + 1 = 512 * t + (512 - n) := by omega
    rw [e]
    show _ ⊢ wp frame (wpE (defs₀ (F := F)) 𝒱₀ (T d) none) Set.univ (.op (.load buf (Rect.unit (s := S4096x128) ![8 * (511 - n), 0] S8x128.size (inbRow n)).toLoadRect (View.loadsAt_vmem h_S8x128))
        fun v => fold buf pre k n (maximumf (tcM x (512 * t + (511 - n))) (pre n v)) (select (cmpf .ogt (pre n v) (tcM x (512 * t + (511 - n)))) (broadcast S8x128 (BitVec.ofNat 32 (512 * t + (511 - n)))) (tcI x (512 * t + (511 - n))))
          (addi (broadcast S8x128 (BitVec.ofNat 32 (512 * t + (511 - n)))) (broadcast S8x128 1#32))) Q
    iintro ⟨H, Hk⟩
    sl_step
    have hv := hp n (by omega) (buf.view.readAt (Elt F) (Rect.unit (s := S4096x128) ![8 * (511 - n), 0] S8x128.size (inbRow n)).toLoadRect f) (fun j => by
      rw [View.readAt_apply]
      refine congrArg _ (funext fun a => Fin.ext ?_)
      match a with
      | 0 => show 8 * (511 - n) + 1 * (j 0).val = 8 * (511 - n) + (j 0).val; omega
      | 1 => show 0 + 1 * (j 1).val = (j 1).val; omega)
    rw [step_m x _ _ hv, step_i x _ _ hv, step_oct, e']
    iapply (ih (by omega))
    isplitl [H]; · iexact H
    iexact Hk

/-- The words a block holds, of the scores: all its rows that are classes. -/
def BHolds (x : Vec F S100000x128 .f32) (t : Nat) (X : Vec F S4096x128 .f32) : Prop :=
  ∀ (r : Fin 4096) (b : Fin 128), 49152 + (4096 * t + r.val) < 100000 → X (rcell r b) = x (cell (49152 + (4096 * t + r.val)) b)

theorem reads_hot (x : Vec F S100000x128 .f32) (t : Nat) (ht : t < 12) (X : Vec F S4096x128 .f32) (hX : BHolds x t X) : Reads x t X preHot := by
  intro n h v hv
  funext j
  have hj : (j 0).val < 8 := (j 0).isLt
  unfold preHot
  rw [shapeCast_self]
  refine (hv j).trans ((hX ⟨8 * (511 - n) + (j 0).val, by omega⟩ (j 1) (by show 49152 + (4096 * t + (8 * (511 - n) + (j 0).val)) < 100000; omega)).trans ?_)
  unfold tcCol
  rw [if_pos (by omega)]
  exact congrArg (fun z => x (cell z (j 1))) (by show 49152 + (4096 * t + (8 * (511 - n) + (j 0).val)) = _; omega)

theorem slt_bound (a : Nat) (ha : a < 200000) : Scalar.cmpi .slt (BitVec.ofNat 32 a) 100000#32 = BitVec.ofBool (decide (a < 100000)) := by
  have e1 : (BitVec.ofNat 32 a).toInt = (a : Int) := by rw [BitVec.toInt_eq_toNat_of_lt (by rw [BitVec.toNat_ofNat]; omega), BitVec.toNat_ofNat]; omega
  refine congrArg BitVec.ofBool ?_
  show (BitVec.ofNat 32 a).slt 100000#32 = _
  unfold BitVec.slt
  rw [e1, show (100000#32).toInt = 100000 from by decide]
  exact decide_eq_decide.mpr (by omega)

theorem reads_mask (x : Vec F S100000x128 .f32) (i : grid1.Coords) (ht : (i 0).val = 12) (X : Vec F S4096x128 .f32) (hX : BHolds x 12 X) : Reads x 12 X (preMask i) := by
  intro n h v hv
  funext j
  have hj : (j 0).val < 8 := (j 0).isLt
  unfold preMask
  rw [shapeCast_self]
  show Scalar.select (Scalar.cmpi .slt (IntOp.addi (Scalar.addi (Scalar.muli (Scalar.addi 12#32 (BitVec.ofNat 32 (i 0).val)) 4096#32) (BitVec.ofNat 32 (8 * (511 - n)))) (iota .tc S8x128 32 [0] iota_S8x128_d0_w32 j)) 100000#32) (v j) _ = _
  rw [hv j, ht]
  have hc : (IntOp.addi (Scalar.addi (Scalar.muli (Scalar.addi 12#32 (BitVec.ofNat 32 12)) 4096#32) (BitVec.ofNat 32 (8 * (511 - n)))) (iota .tc S8x128 32 [0] iota_S8x128_d0_w32 j)) = BitVec.ofNat 32 (98304 + (8 * (511 - n) + (j 0).val)) := by
    rw [iota_single_apply]
    simp only [Scalar.addi, Scalar.muli, IntOp.addi, IntOp.muli]
    apply BitVec.eq_of_toNat_eq
    simp only [BitVec.toNat_add, BitVec.toNat_mul, BitVec.toNat_ofNat]
    show _ = _
    omega
  rw [hc, slt_bound _ (by omega)]
  unfold tcCol
  by_cases hb : 98304 + (8 * (511 - n) + (j 0).val) < 100000
  · rw [decide_eq_true hb, if_pos (by omega)]
    refine (hX ⟨8 * (511 - n) + (j 0).val, by omega⟩ (j 1) (by show 49152 + (4096 * 12 + (8 * (511 - n) + (j 0).val)) < 100000; omega)).trans ?_
    exact congrArg (fun z => x (cell z (j 1))) (by show 49152 + (4096 * 12 + (8 * (511 - n) + (j 0).val)) = _; omega)
  · rw [decide_eq_false hb, if_neg (by omega)]; rfl

end Cert.Proof.Tc

end
-- ==== Proof.TcBody.lean ====
module

public import proofs.«01_k».proof.Proof.TcWp

@[expose] public section

noncomputable section

namespace Cert.Proof.Tc

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Cert.Proof.Spec
open Cert.Proof.Sc (UU 𝒱₀)

variable {F : FTy → Type} [FloatOps F]

local notation "𝕄" => MT nD τ sig (HIx 1) (Elt F) ℕ UU ℕ

variable (d : Dev nD)

/-- A store that covers the view is read back as what was stored. -/
theorem read_store {sp : Space} {a b : Nat} {e : EltTy} (m : Memref sig .tc sp ⟨2, ![a, b]⟩ e) (inb : ∀ x, (![0, 0] : Fin 2 → Nat) x + (⟨2, ![a, b]⟩ : Shape).size x ≤ (⟨2, ![a, b]⟩ : Shape).size x)
    (f : m.view.ty.Contents (Elt F)) (w : Vec F ⟨2, ![a, b]⟩ e) :
    m.view.read (Elt F) ((m.access (Rect.unit (s := (⟨2, ![a, b]⟩ : Shape)) ![0, 0] (⟨2, ![a, b]⟩ : Shape).size inb)).write (Elt F) f w Finset.univ) = w := by
  funext y
  show m.view.read (Elt F) (m.view.writes (Elt F) f [⟨Rect.unit (s := (⟨2, ![a, b]⟩ : Shape)) ![0, 0] (⟨2, ![a, b]⟩ : Shape).size inb, w⟩]) y = w y
  have he : ∀ x : (⟨2, ![a, b]⟩ : Shape).Idx, (Rect.unit (s := (⟨2, ![a, b]⟩ : Shape)) ![0, 0] (⟨2, ![a, b]⟩ : Shape).size inb).emb x = x := fun x => funext fun k => Fin.ext (by
    match k with
    | 0 => show 0 + 1 * (x 0).val = (x 0).val; omega
    | 1 => show 0 + 1 * (x 1).val = (x 1).val; omega)
  refine (View.read_writes_apply_of_pieces _ _ w _ (List.forall_mem_singleton.2 fun x => ?_) y ⟨_, List.mem_singleton_self _, ?_⟩)
  · exact congrArg w (he x).symm
  · rw [Rect.mem_set_unit]
    intro k
    match k with
    | 0 => exact ⟨Nat.zero_le _, by have := (y 0).isLt; show (y 0).val < 0 + a; rw [Nat.zero_add]; exact this⟩
    | 1 => exact ⟨Nat.zero_le _, by have := (y 1).isLt; show (y 1).val < 0 + b; rw [Nat.zero_add]; exact this⟩

/-- The ownership a covering store leaves. -/
theorem owns_store {sp : Space} {a b : Nat} {e : EltTy} (m : Memref sig .tc sp ⟨2, ![a, b]⟩ e) (inb : ∀ x, (![0, 0] : Fin 2 → Nat) x + (⟨2, ![a, b]⟩ : Shape).size x ≤ (⟨2, ![a, b]⟩ : Shape).size x)
    (f : m.view.ty.Contents (Elt F)) (w : Vec F ⟨2, ![a, b]⟩ e) (w' : Vec F ⟨2, ![a, b]⟩ e) (hw : w = w') :
    (m.view.loc (T d) ↦[m.view.set]{fullShare} (m.access (Rect.unit (s := (⟨2, ![a, b]⟩ : Shape)) ![0, 0] (⟨2, ![a, b]⟩ : Shape).size inb)).write (Elt F) f w Finset.univ : sProp 𝕄)
      ⊢ owns (T d) m fullShare w' := by
  subst hw
  unfold owns
  iintro H
  iexists _
  isplitr; · ipureintro; exact read_store m inb f w
  iexact H

theorem owns_intro {sp : Space} {sh : Shape} {e : EltTy} (m : Memref sig .tc sp sh e) (f : m.view.ty.Contents (Elt F)) (X : Vec F sh e) (h : m.view.read (Elt F) f = X) :
    (m.view.loc (T d) ↦[m.view.set]{fullShare} f : sProp 𝕄) ⊢ owns (T d) m fullShare X := by
  unfold owns
  iintro H
  iexists _
  isplitr; · ipureintro; exact h
  iexact H

/-- What the last point leaves in the two results. -/
def finM (x : Vec F S100000x128 .f32) : FVec F S1x128 .f32 :=
  shapeCast S1x128 (multiReduction .maximumf [0] S128 (tcM x 6656) 0xFF800000#32 reduces_S8x128_S128 (.inl rfl) rfl) shapeCasts_S128_S1x128
def finCand (x : Vec F S100000x128 .f32) : IVec S8x128 32 :=
  select (cmpf .oeq (tcM x 6656) (broadcastTo S8x128 (finM x) broadcasts_S1x128_S8x128))
    (addi (addi (muli (tcI x 6656) (broadcast S8x128 8#32)) (iota .tc S8x128 32 [0] iota_S8x128_d0_w32)) (broadcast S8x128 49152#32)) (broadcast S8x128 1073741824#32)
def finI (x : Vec F S100000x128 .f32) : IVec S1x128 32 :=
  shapeCast S1x128 (multiReductionI .minsi [0] S128 (finCand x) 2147483647#32 reduces_S8x128_S128 rfl) shapeCasts_S128_S1x128

seal foldAll finish start fold

section
variable (i : grid1.Coords) (arg1 : Memref sig .tc .vmem S4096x128 .f32) (arg2 : Memref sig .tc .vmem S1x128 .f32) (arg3 : Memref sig .tc .vmem S1x128 .i32)
  (arg4 : Memref sig .tc .vmem S8x128 .f32) (arg5 : Memref sig .tc .vmem S8x128 .i32)

theorem wp_foldAll (x : Vec F S100000x128 .f32) (t : Nat) (hi : (i 0).val = t)
    (X1 : Vec F S4096x128 .f32) (pre : Nat → Vec F S8x128 .f32 → FVec F S8x128 .f32) (hp : Reads x t X1 pre)
    (k : Prog (TpuEff nD τ sig (Elt F) Λ₀ .tc) PUnit) (Q : PUnit → sProp 𝕄) :
    iprop((owns (T d) arg1 fullShare X1 ∗ owns (T d) arg4 fullShare (tcM x (512 * t)) ∗ owns (T d) arg5 fullShare (tcI x (512 * t)))
        ∗ ((owns (T d) arg1 fullShare X1 ∗ owns (T d) arg4 fullShare (tcM x (512 * t + 512)) ∗ owns (T d) arg5 fullShare (tcI x (512 * t + 512)))
            -∗ wp frame (wpE (defs₀ (F := F)) 𝒱₀ (T d) none) Set.univ k Q))
      ⊢ wp frame (wpE (defs₀ (F := F)) 𝒱₀ (T d) none) Set.univ (foldAll i arg1 arg4 arg5 pre k) Q := by
  have hoct : (broadcast S8x128 (Scalar.muli (BitVec.ofNat 32 (i 0).val) 512#32) : IVec S8x128 32) = broadcast S8x128 (BitVec.ofNat 32 (512 * t)) := by
    rw [hi]; refine congrArg (broadcast S8x128) ?_
    show BitVec.ofNat 32 t * 512#32 = _
    rw [Nat.mul_comm, BitVec.ofNat_mul]
  unfold foldAll owns
  simp only [Prog.lift, Prog.bind_op, Prog.bind_ret]
  rw [hoct]
  iintro ⟨⟨⟨%f1, %h1, H1⟩, ⟨%f4, %h4, H4⟩, ⟨%f5, %h5, H5⟩⟩, Hk⟩
  sl_step
  sl_step
  rw [View.readAt_full, View.readAt_full, h4, h5]
  subst h1
  iapply (wp_fold d x t arg1 f1 pre hp _ Q 512 (le_refl _))
  isplitl [H1]; · iexact H1
  iintro H1
  unfold putBack
  simp only [Prog.lift, Prog.bind_op, Prog.bind_ret]
  sl_step
  sl_step
  sl_step
  sl_step
  ihave H1' := (owns_intro d arg1 f1 _ rfl) $$ H1
  ihave H4' := (owns_store d arg4 _ _ _ (tcM x (512 * t + 512)) (shapeCast_self _ _)) $$ H4
  ihave H5' := (owns_store d arg5 _ _ _ (tcI x (512 * t + 512)) (shapeCast_self _ _)) $$ H5
  unfold owns
  iapply Hk
  isplitl [H1']; · iexact H1'
  isplitl [H4']; · iexact H4'
  iexact H5'

theorem wp_start (x : Vec F S100000x128 .f32) (X4 : Vec F S8x128 .f32) (X5 : Vec F S8x128 .i32) (Q : PUnit → sProp 𝕄) :
    iprop((owns (T d) arg4 fullShare X4 ∗ owns (T d) arg5 fullShare X5)
        ∗ ((owns (T d) arg4 fullShare (tcM x 0) ∗ owns (T d) arg5 fullShare (tcI x 0)) -∗ Q ⟨⟩))
      ⊢ wp frame (wpE (defs₀ (F := F)) 𝒱₀ (T d) none) Set.univ (start arg4 arg5) Q := by
  unfold start
  simp only [Prog.lift, Prog.bind_op, Prog.bind_ret]
  unfold owns
  iintro ⟨⟨⟨%f4, %h4, H4⟩, ⟨%f5, %h5, H5⟩⟩, Hk⟩
  sl_steps
  ihave H4' := (owns_store d arg4 _ _ (shapeCast S8x128 (broadcast S8x128 (Scalar.ofBits (F := F) .f32 0xFF800000#32)) shapeCasts_S8x128_S8x128) (tcM x 0) ((shapeCast_self _ _).trans rfl)) $$ H4
  ihave H5' := (owns_store d arg5 _ _ (shapeCast S8x128 (broadcast S8x128 0#32) shapeCasts_S8x128_S8x128) (tcI x 0) ((shapeCast_self _ _).trans rfl)) $$ H5
  unfold owns
  iapply Hk
  isplitl [H4']; · iexact H4'
  iexact H5'

theorem wp_finish (x : Vec F S100000x128 .f32) (X2 : Vec F S1x128 .f32) (X3 : Vec F S1x128 .i32) (Q : PUnit → sProp 𝕄) :
    iprop((owns (T d) arg2 fullShare X2 ∗ owns (T d) arg3 fullShare X3 ∗ owns (T d) arg4 fullShare (tcM x 6656) ∗ owns (T d) arg5 fullShare (tcI x 6656))
        ∗ ((owns (T d) arg2 fullShare (finM x) ∗ owns (T d) arg3 fullShare (finI x) ∗ owns (T d) arg4 fullShare (tcM x 6656) ∗ owns (T d) arg5 fullShare (tcI x 6656)) -∗ Q ⟨⟩))
      ⊢ wp frame (wpE (defs₀ (F := F)) 𝒱₀ (T d) none) Set.univ (finish arg2 arg3 arg4 arg5) Q := by
  unfold finish
  simp only [Prog.lift, Prog.bind_op, Prog.bind_ret]
  unfold owns
  iintro ⟨⟨⟨%f2, %h2, H2⟩, ⟨%f3, %h3, H3⟩, ⟨%f4, %h4, H4⟩, ⟨%f5, %h5, H5⟩⟩, Hk⟩
  sl_step
  sl_step
  rw [View.readAt_full, View.readAt_full, h4, h5]
  dsimp only
  rw [show shapeCast S1x128 (multiReduction .maximumf [0] S128 (tcM x 6656) 0xFF800000#32 reduces_S8x128_S128 (.inl rfl) rfl) shapeCasts_S128_S1x128 = finM x from rfl]
  sl_steps
  ihave H2' := (owns_store d arg2 _ _ _ (finM x) rfl) $$ H2
  ihave H3' := (owns_store d arg3 _ _ (shapeCast S1x128 (multiReductionI .minsi [0] S128
      (select (cmpf .oeq (tcM x 6656) (broadcastTo S8x128 (finM x) broadcasts_S1x128_S8x128))
        (addi (addi (muli (tcI x 6656) (broadcast S8x128 8#32)) (iota .tc S8x128 32 [0] iota_S8x128_d0_w32)) (broadcast S8x128 49152#32)) (broadcast S8x128 1073741824#32))
      2147483647#32 reduces_S8x128_S128 rfl) shapeCasts_S128_S1x128) (finI x) rfl) $$ H3
  ihave H4' := (owns_intro d arg4 f4 _ h4) $$ H4
  ihave H5' := (owns_intro d arg5 f5 _ h5) $$ H5
  unfold owns
  iapply Hk
  isplitl [H2']; · iexact H2'
  isplitl [H3']; · iexact H3'
  isplitl [H4']; · iexact H4'
  iexact H5'

theorem cond_eq : ∀ t : Fin 13, (Scalar.cmpi .ne (Scalar.extui (Scalar.cmpi .eq (BitVec.ofNat 32 t.val) 0#32) : BitVec 32) 0#32 = 1#1) ↔ t.val = 0 := by decide
theorem cond_lt : ∀ t : Fin 13, (Scalar.cmpi .ne (Scalar.extui (Scalar.cmpi .slt (BitVec.ofNat 32 t.val) 12#32) : BitVec 32) 0#32 = 1#1) ↔ t.val < 12 := by decide
theorem cond_last : ∀ t : Fin 13, (Scalar.cmpi .ne (Scalar.extui (Scalar.cmpi .eq (BitVec.ofNat 32 t.val) 12#32) : BitVec 32) 0#32 = 1#1) ↔ t.val = 12 := by decide

/-- A point before the last folds its block into the running vectors. -/
theorem wp_body_hot (x : Vec F S100000x128 .f32) (t : Nat) (ht : t < 12) (hi : (i 0).val = t)
    (X1 : Vec F S4096x128 .f32) (hX : BHolds x t X1) (X4 : Vec F S8x128 .f32) (X5 : Vec F S8x128 .i32) (h45 : t ≠ 0 → X4 = tcM x (512 * t) ∧ X5 = tcI x (512 * t)) (Q : PUnit → sProp 𝕄) :
    iprop((owns (T d) arg1 fullShare X1 ∗ owns (T d) arg4 fullShare X4 ∗ owns (T d) arg5 fullShare X5)
        ∗ ((owns (T d) arg1 fullShare X1 ∗ owns (T d) arg4 fullShare (tcM x (512 * t + 512)) ∗ owns (T d) arg5 fullShare (tcI x (512 * t + 512))) -∗ Q ⟨⟩))
      ⊢ wp frame (wpE (defs₀ (F := F)) 𝒱₀ (T d) none) Set.univ (body i arg1 arg2 arg3 arg4 arg5) Q := by
  have c1 := cond_eq ⟨t, by omega⟩
  have c2 := cond_lt ⟨t, by omega⟩
  have c3 := cond_last ⟨t, by omega⟩
  unfold body arg0
  rw [hi]
  dsimp only
  rw [if_pos (c2.2 ht), if_neg (fun h => (Nat.ne_of_lt ht) (c3.1 h))]
  have tail : ∀ Y4 Y5, Y4 = tcM x (512 * t) → Y5 = tcI x (512 * t) → iprop((owns (T d) arg1 fullShare X1 ∗ owns (T d) arg4 fullShare Y4 ∗ owns (T d) arg5 fullShare Y5)
        ∗ ((owns (T d) arg1 fullShare X1 ∗ owns (T d) arg4 fullShare (tcM x (512 * t + 512)) ∗ owns (T d) arg5 fullShare (tcI x (512 * t + 512))) -∗ Q ⟨⟩))
      ⊢ wp frame (wpE (defs₀ (F := F)) 𝒱₀ (T d) none) Set.univ (foldAll i arg1 arg4 arg5 preHot (pure ⟨⟩) >>= fun _ => pure ⟨⟩) Q := by
    rintro _ _ rfl rfl
    rw [wp_bind]
    iintro ⟨H, Hk⟩
    iapply (wp_foldAll d i arg1 arg4 arg5 x t hi X1 preHot (reads_hot x t ht X1 hX) (pure ⟨⟩) _)
    isplitl [H]; · iexact H
    iintro H
    sl_steps
    iapply Hk; iexact H
  by_cases h0 : t = 0
  · rw [if_pos (c1.2 h0)]
    subst h0
    rw [wp_bind]
    iintro ⟨⟨H1, H4, H5⟩, Hk⟩
    iapply (wp_start d arg4 arg5 x X4 X5 _)
    isplitl [H4 H5]
    · isplitl [H4]; · iexact H4
      iexact H5
    iintro ⟨H4, H5⟩
    iapply (tail _ _ rfl rfl)
    isplitl [H1 H4 H5]
    · isplitl [H1]; · iexact H1
      isplitl [H4]; · iexact H4
      iexact H5
    iexact Hk
  · rw [if_neg (fun h => h0 (c1.1 h))]
    exact tail _ _ (h45 h0).1 (h45 h0).2

/-- The last point folds its block's classes and writes the results. -/
theorem wp_body_last (x : Vec F S100000x128 .f32) (hi : (i 0).val = 12)
    (X1 : Vec F S4096x128 .f32) (hX : BHolds x 12 X1) (X2 : Vec F S1x128 .f32) (X3 : Vec F S1x128 .i32) (X4 : Vec F S8x128 .f32) (X5 : Vec F S8x128 .i32) (h4 : X4 = tcM x 6144) (h5 : X5 = tcI x 6144) (Q : PUnit → sProp 𝕄) :
    iprop((owns (T d) arg1 fullShare X1 ∗ owns (T d) arg2 fullShare X2 ∗ owns (T d) arg3 fullShare X3 ∗ owns (T d) arg4 fullShare X4 ∗ owns (T d) arg5 fullShare X5)
        ∗ ((owns (T d) arg1 fullShare X1 ∗ owns (T d) arg2 fullShare (finM x) ∗ owns (T d) arg3 fullShare (finI x) ∗ owns (T d) arg4 fullShare (tcM x 6656) ∗ owns (T d) arg5 fullShare (tcI x 6656)) -∗ Q ⟨⟩))
      ⊢ wp frame (wpE (defs₀ (F := F)) 𝒱₀ (T d) none) Set.univ (body i arg1 arg2 arg3 arg4 arg5) Q := by
  subst h4 h5
  unfold body arg0
  have n1 : ¬(Scalar.cmpi .ne (Scalar.extui (Scalar.cmpi .eq (BitVec.ofNat 32 12) 0#32) : BitVec 32) 0#32 = 1#1) := by decide
  have n2 : ¬(Scalar.cmpi .ne (Scalar.extui (Scalar.cmpi .slt (BitVec.ofNat 32 12) 12#32) : BitVec 32) 0#32 = 1#1) := by decide
  have n3 : Scalar.cmpi .ne (Scalar.extui (Scalar.cmpi .eq (BitVec.ofNat 32 12) 12#32) : BitVec 32) 0#32 = 1#1 := by decide
  rw [hi]
  dsimp only
  rw [if_neg n1, if_neg n2, if_pos n3]
  rw [wp_bind]
  iintro ⟨⟨H1, H2, H3, H4, H5⟩, Hk⟩
  iapply (wp_foldAll d i arg1 arg4 arg5 x 12 hi X1 (preMask i) (reads_mask x i hi X1 hX) _ _)
  isplitl [H1 H4 H5]
  · isplitl [H1]; · iexact H1
    isplitl [H4]; · iexact H4
    iexact H5
  iintro ⟨H1, H4, H5⟩
  iapply (wp_finish d arg2 arg3 arg4 arg5 x X2 X3 _)
  isplitl [H2 H3 H4 H5]
  · isplitl [H2]; · iexact H2
    isplitl [H3]; · iexact H3
    isplitl [H4]; · iexact H4
    iexact H5
  iintro ⟨H2, H3, H4, H5⟩
  sl_steps
  iapply Hk
  isplitl [H1]; · iexact H1
  isplitl [H2]; · iexact H2
  isplitl [H3]; · iexact H3
  isplitl [H4]; · iexact H4
  iexact H5
end

end Cert.Proof.Tc

end
-- ==== Proof.TcEq.lean ====
module

public import proofs.«01_k».proof.Proof.TcForm

@[expose] public section

noncomputable section

namespace Cert.Proof.Tc

open Cert.KernelIdeal Cert.KernelIdeal.Gen Idealize.ShloMosaic Idealize.SL.Sem

variable {F : FTy → Type} [FloatOps F]
variable (i : grid1.Coords) (arg1 : Memref sig .tc .vmem S4096x128 .f32) (harg1 : arg1.IsWhole) (arg2 : Memref sig .tc .vmem S1x128 .f32) (harg2 : arg2.IsWhole) (arg3 : Memref sig .tc .vmem S1x128 .i32) (harg3 : arg3.IsWhole) (arg4 : Memref sig .tc .vmem S8x128 .f32) (harg4 : arg4.IsWhole) (arg5 : Memref sig .tc .vmem S8x128 .i32) (harg5 : arg5.IsWhole)

set_option maxRecDepth 100000 in
set_option maxHeartbeats 0 in
/-- The kernel's body is the recursive form, statement for statement. -/
theorem body_eq : cc1__tc_rowmax_body (F := F) i arg1 harg1 arg2 harg2 arg3 harg3 arg4 harg4 arg5 harg5 = body i arg1 arg2 arg3 arg4 arg5 := by
  unfold cc1__tc_rowmax_body body
  exact @rfl _ _

end Cert.Proof.Tc

end
-- ==== Proof.ScTile.lean ====
module

public import proofs.«01_k».proof.Proof.ScTrip

@[expose] public section

noncomputable section

namespace Cert.Proof.Sc

open Cert.KernelIdeal Cert.KernelIdeal.Gen Cert.Proof.Spec
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The launch's set-up -/

abbrev ΛP : Labels := Pipeline.Sig Λ₀ (Fin 2) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D [FloatOps F] : Defs nD τ sig (Elt F) (ΛP (F := F)) := Pipeline.defs pcfgs defs₀
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

local notation "𝕄" => MT nD τ sig (HIx 1) (Elt F) ℕ UU ℕ

abbrev EH : Emb UH (MT nD τ sig (HIx 1) (Elt F) ℕ UU ℕ) := embL

/-! ## The arrays the call passes -/

abbrev tLoc (d : Dev nD) : Loc nD τ sig := (SparseCore.T d).loc main_v0
abbrev mLoc (d : Dev nD) : Loc nD τ sig := (SparseCore.T d).loc main_v1_0
abbrev iLoc (d : Dev nD) : Loc nD τ sig := (SparseCore.T d).loc main_v1_1

local notation "tV" => (Memref.whole Cert.KernelIdeal.main_v0_scv : Memref Cert.KernelIdeal.sig Kind.scVector Space.hbm Cert.KernelIdeal.S100000x128 EltTy.f32)
local notation "mV" => (Memref.whole Cert.KernelIdeal.main_v1_0_scv : Memref Cert.KernelIdeal.sig Kind.scVector Space.hbm Cert.KernelIdeal.S32x128 EltTy.f32)
local notation "iV" => (Memref.whole Cert.KernelIdeal.main_v1_1_scv : Memref Cert.KernelIdeal.sig Kind.scVector Space.hbm Cert.KernelIdeal.S32x128 EltTy.i32)
local notation "sA" => (Memref.whole Cert.KernelIdeal.cc0_scratch0 : Memref Cert.KernelIdeal.sig Kind.scVector Space.vmem Cert.KernelIdeal.S384x128 EltTy.f32)
local notation "sB" => (Memref.whole Cert.KernelIdeal.cc0_scratch1 : Memref Cert.KernelIdeal.sig Kind.scVector Space.vmem Cert.KernelIdeal.S384x128 EltTy.f32)
local notation "sM" => (Memref.whole Cert.KernelIdeal.cc0_scratch2 : Memref Cert.KernelIdeal.sig Kind.scVector Space.vmem Cert.KernelIdeal.S128 EltTy.f32)
local notation "sI" => (Memref.whole Cert.KernelIdeal.cc0_scratch3 : Memref Cert.KernelIdeal.sig Kind.scVector Space.vmem Cert.KernelIdeal.S128 EltTy.i32)

theorem hdiv : 32 ∣ S32x128.size 0 := ⟨1, rfl⟩
/-- Row `w` of the two results: one worker's. -/
abbrev row (w : Fin 32) : Rect S32x128 := Rect.part (s := S32x128) (a₀ := 0) hdiv w
abbrev rowSet (w : Fin 32) : Finset S32x128.Idx := ((mV).view.slice (row w)).set

variable [FloatOps F]

/-! ## What the handshakes carry -/

section Pay
variable (xt : (d : Dev nD) → Buf (Elt F) (tLoc d)) (m₁ : (d : Dev nD) → Buf (Elt F) (mLoc d)) (m₂ : (d : Dev nD) → Buf (Elt F) (iLoc d))

/-- Worker `w`'s read share of the transposed scores. -/
abbrev tPts (d : Dev nD) (w : Fin 32) : sProp 𝕄 := tLoc d ↦{Transfers.shareTok fullShare 32 w} xt d
abbrev mRow (d : Dev nD) (w : Fin 32) (f : Buf (Elt F) (mLoc d)) : sProp 𝕄 := mLoc d ↦[rowSet w]{fullShare} f
abbrev iRow (d : Dev nD) (w : Fin 32) (f : Buf (Elt F) (iLoc d)) : sProp 𝕄 := iLoc d ↦[rowSet w]{fullShare} f

/-- What a worker is handed, and what it hands back: its share of the scores and its row of each result. -/
abbrev given (d : Dev nD) (w : Fin 32) : sProp 𝕄 := iprop(tPts xt d w ∗ mRow d w (m₁ d) ∗ iRow d w (m₂ d))
abbrev made (d : Dev nD) (w : Fin 32) : sProp 𝕄 := iprop(tPts xt d w ∗ mRow d w (scM (xt d)) ∗ iRow d w (scI (xt d)))

/-- The worker's number from its SparseCore's and its tile's. -/
abbrev wk (c : Fin 2) (i : Fin 16) : Fin 32 := ⟨2 * i.val + c.val, by omega⟩

def P : (K (F := F)).Pay (nD := nD) (Val := Elt F) (Name := ℕ) (U := UU) where
  st := fun q d c => match q with | 0 => bigSep Finset.univ fun i : Fin 16 => given xt m₁ m₂ d (wk (Fin.cast nCore_zero c) i)
  dn := fun q d c => match q with | 0 => bigSep Finset.univ fun i : Fin 16 => made xt d (wk (Fin.cast nCore_zero c) i)
  go := fun q d c i => match q with | 0 => given xt m₁ m₂ d (wk (Fin.cast nCore_zero c) (Fin.cast nSub_zero i))
  td := fun q d c i => match q with | 0 => made xt d (wk (Fin.cast nCore_zero c) (Fin.cast nSub_zero i))
  x := fun _ _ => iprop(emp)

instance P_storable : (P xt m₁ m₂).IsStorable where
  st q d c := match q with
    | 0 => (inferInstance : BI.Storable (upEmb : UEmb _ 𝕄) (bigSep Finset.univ fun i : Fin 16 => given xt m₁ m₂ d (wk (Fin.cast nCore_zero c) i)))
  dn q d c := match q with
    | 0 => (inferInstance : BI.Storable (upEmb : UEmb _ 𝕄) (bigSep Finset.univ fun i : Fin 16 => made xt d (wk (Fin.cast nCore_zero c) i)))
  go q d c i := match q with
    | 0 => (inferInstance : BI.Storable (upEmb : UEmb _ 𝕄) (given xt m₁ m₂ d (wk (Fin.cast nCore_zero c) (Fin.cast nSub_zero i))))
  td q d c i := match q with
    | 0 => (inferInstance : BI.Storable (upEmb : UEmb _ 𝕄) (made xt d (wk (Fin.cast nCore_zero c) (Fin.cast nSub_zero i))))

end Pay

/-! ## The task -/

section Tile
variable (d : Dev nD) (L : grid0.Coords)

/-- The worker's number as an index of the results' rows. -/
abbrev wL (L : grid0.Coords) : Fin 32 := ⟨wid L, by have h : (L 1).val < 16 := (L 1).isLt; have h' : (L 0).val < 2 := (L 0).isLt; show 2 * (L 1).val + (L 0).val < 32; omega⟩

abbrev rowK (L : grid0.Coords) : Rect S32x128 := Rect.unit (s := S32x128) (k0_off34 L) S1x128.size (k0_off34_inb L)
abbrev mRowK (L : grid0.Coords) : Memref sig .scVector .hbm S128 .f32 := ((mV).slice (rowK L) (fun _ => rfl)).squeeze S128 squeezes_S1x128_S128
abbrev iRowK (L : grid0.Coords) : Memref sig .scVector .hbm S128 .i32 := ((iV).slice (rowK L) (fun _ => rfl)).squeeze S128 squeezes_S1x128_S128

omit [FloatOps F] in
theorem rowK_eq : rowK L = row (wL L) := by
  unfold rowK row Rect.part Rect.block
  congr 1 <;> funext a
  · rw [k0_off34_eq]
    match a with
    | 0 => simp [Shape.partIx, Shape.partSize]
    | 1 => simp [Shape.partIx, Shape.partSize]
  · match a with
    | 0 => simp [Shape.partSize]
    | 1 => simp [Shape.partSize]

omit [FloatOps F] in
theorem set_mRowK : (mRowK L).view.set = rowSet (wL L) := by
  show (((mV).view.slice (rowK L)).reshape S128 squeezes_S1x128_S128.numel_eq).set = ((mV).view.slice (row (wL L))).set
  rw [View.set_reshape]
  exact rowK_eq L ▸ rfl
omit [FloatOps F] in
theorem set_iRowK : (iRowK L).view.set = rowSet (wL L) := by
  show (((iV).view.slice (rowK L)).reshape S128 squeezes_S1x128_S128.numel_eq).set = ((mV).view.slice (row (wL L))).set
  rw [View.set_reshape]
  exact rowK_eq L ▸ rfl

omit [FloatOps F] in
theorem pts_mRowK (f : Buf (Elt F) (mLoc d)) :
    ((mRowK L).view.loc (V d (cV L) (jV L)) ↦[(mRowK L).view.set]{fullShare} f : sProp 𝕄) = mRow d (wL L) f := by
  rw [set_mRowK]
omit [FloatOps F] in
theorem pts_iRowK (f : Buf (Elt F) (iLoc d)) :
    ((iRowK L).view.loc (V d (cV L) (jV L)) ↦[(iRowK L).view.set]{fullShare} f : sProp 𝕄) = iRow d (wL L) f := by
  rw [set_iRowK]
omit [FloatOps F] in
/-- The scores as the tile addresses them. -/
theorem pts_tV (q : PosShare TreeShare) (f : Buf (Elt F) (tLoc d)) :
    ((tV).view.loc (V d (cV L) (jV L)) ↦{q} f : sProp 𝕄) = tLoc d ↦{q} f := rfl

/-- The four DMA cells the body names. -/
abbrev cellV (d : Dev nD) (L : grid0.Coords) (s : DmaSems sig S_) : GSem nD τ sig := (V d (cV L) (jV L), .dma s.sem)

/-- A subcore's own cells, the four the body names split off. -/
abbrev cells₁ (d : Dev nD) (L : grid0.Coords) : Finset (GSem nD τ sig) :=
  ((((ownCells (V d (cV L) (jV L))).erase (cellV d L cc0_scratch4)).erase (cellV d L cc0_scratch5)).erase (cellV d L cc0_scoped0)).erase (cellV d L cc0_scoped1)

omit [FloatOps F] in
theorem ownSems0_V :
    (ownSems0 (V d (cV L) (jV L)) : sProp 𝕄)
      = iprop(semVal (cellV d L cc0_scratch4) 0 ∗ semVal (cellV d L cc0_scratch5) 0 ∗ semVal (cellV d L cc0_scoped0) 0 ∗ semVal (cellV d L cc0_scoped1) 0
          ∗ bigSep (cells₁ d L) fun g => semVal g 0) := by
  unfold SparseCore.Cfg.ownSems0
  rw [SparseCore.bigSep_erase' ((mem_ownCells (g := cellV d L cc0_scratch4)).mpr ⟨rfl, by
      show (SemLoc.dma cc0_scratch4.sem : SemLoc sig).isScoped .scVector = true; decide⟩),
    SparseCore.bigSep_erase' (Finset.mem_erase.mpr ⟨by simp [cellV]; decide, (mem_ownCells (g := cellV d L cc0_scratch5)).mpr ⟨rfl, by
      show (SemLoc.dma cc0_scratch5.sem : SemLoc sig).isScoped .scVector = true; decide⟩⟩),
    SparseCore.bigSep_erase' (Finset.mem_erase.mpr ⟨by simp [cellV]; decide, Finset.mem_erase.mpr ⟨by simp [cellV]; decide,
      (mem_ownCells (g := cellV d L cc0_scoped0)).mpr ⟨rfl, by show (SemLoc.dma cc0_scoped0.sem : SemLoc sig).isScoped .scVector = true; decide⟩⟩⟩),
    SparseCore.bigSep_erase' (Finset.mem_erase.mpr ⟨by simp [cellV]; decide, Finset.mem_erase.mpr ⟨by simp [cellV]; decide,
      Finset.mem_erase.mpr ⟨by simp [cellV]; decide, (mem_ownCells (g := cellV d L cc0_scoped1)).mpr ⟨rfl, by
        show (SemLoc.dma cc0_scoped1.sem : SemLoc sig).isScoped .scVector = true; decide⟩⟩⟩⟩)]

/-- A subcore's own buffers, the four scratches split off. -/
abbrev refs₁ (L : grid0.Coords) : Finset (DevRef τ sig) :=
  ((((ownRefs (τ := τ) (.scVector (cV L) (jV L))).erase ((Proc.scVector (cV L) (jV L)).devRef cc0_scratch0)).erase
    ((Proc.scVector (cV L) (jV L)).devRef cc0_scratch1)).erase ((Proc.scVector (cV L) (jV L)).devRef cc0_scratch2)).erase ((Proc.scVector (cV L) (jV L)).devRef cc0_scratch3)

omit [FloatOps F] in
theorem ne_ref {a b : Ref sig .scVector} (h : a ≠ b) : (Proc.scVector (cV L) (jV L)).devRef a ≠ (Proc.scVector (cV L) (jV L)).devRef b :=
  fun e => absurd (Proc.devRef_injective _ e) h

omit [FloatOps F] in
theorem ownBufs_V :
    (ownBufs (V d (cV L) (jV L)) : sProp 𝕄)
      = iprop((∃ f, (sA).view.loc (V d (cV L) (jV L)) ↦{fullShare} f) ∗ (∃ f, (sB).view.loc (V d (cV L) (jV L)) ↦{fullShare} f)
          ∗ (∃ f, (sM).view.loc (V d (cV L) (jV L)) ↦{fullShare} f) ∗ (∃ f, (sI).view.loc (V d (cV L) (jV L)) ↦{fullShare} f)
          ∗ bigSep (refs₁ L) fun b => iprop(∃ f, ((d, b) : Loc nD τ sig) ↦{fullShare} f)) := by
  unfold SparseCore.Cfg.ownBufs
  have mem := fun (b : Ref sig .scVector) (h) => SparseCore.Cfg.mem_ownRefs_of_owner (p := Proc.scVector (cV L) (jV L)) (b := (Proc.scVector (cV L) (jV L)).devRef b) h
  refine (SparseCore.bigSep_erase' (mem cc0_scratch0 rfl)).trans ?_
  rw [SparseCore.bigSep_erase' (Finset.mem_erase.mpr ⟨ne_ref L (by decide), mem cc0_scratch1 rfl⟩),
    SparseCore.bigSep_erase' (Finset.mem_erase.mpr ⟨ne_ref L (by decide), Finset.mem_erase.mpr ⟨ne_ref L (by decide), mem cc0_scratch2 rfl⟩⟩),
    SparseCore.bigSep_erase' (Finset.mem_erase.mpr ⟨ne_ref L (by decide), Finset.mem_erase.mpr ⟨ne_ref L (by decide), Finset.mem_erase.mpr ⟨ne_ref L (by decide), mem cc0_scratch3 rfl⟩⟩⟩)]

/-- A loop's invariant: the carried values after the trips so far, the buffer it reads kept. -/
def inv (x : Vec F S100000x128 .f32) (buf : Memref sig .scVector .vmem S384x128 .f32) (f : Buf (Elt F) (buf.view.loc (V d (cV L) (jV L)))) (c : Nat) (k : Nat) (s : St F) : sProp 𝕄 :=
  iprop(⌜s = stAt x (wid L) (c + k)⌝ ∗ buf.view.loc (V d (cV L) (jV L)) ↦{fullShare} f)

theorem inv_step (x : Vec F S100000x128 .f32) (buf : Memref sig .scVector .vmem S384x128 .f32) (hw : buf.view.set = Finset.univ) (f : Buf (Elt F) (buf.view.loc (V d (cV L) (jV L))))
    (c : Nat) (hh : Holds x (wid L) c (buf.view.read (Elt F) f)) (k : Fin k0_t1_loop.trips) (s : St F)
    (p : Prog (TpuEff nD τ sig (Elt F) Λ₀ (.scVector ((L 0).castLE hcore0) ((L 1).castLE hsub0))) (St F)) (hp : p = trip L buf (BitVec.ofNat 32 c) k s) :
    inv d L x buf f c k.val s ⊢ wp frame (wpE (defs₀ (F := F)) 𝒱₀ (V d (cV L) (jV L)) none) Set.univ p (inv d L x buf f c (k.val + 1)) := by
  subst hp
  unfold inv
  iintro ⟨%hs, H⟩
  subst hs
  have h := wp_trip d L buf f x c hh k
  rw [hw] at h
  iapply h; iexact H

theorem named {ℓ : Loc nD τ sig} {I : Finset (Idx ℓ)} (f : Buf (Elt F) ℓ) : (ℓ ↦[I]{fullShare} f : sProp 𝕄) ⊢ iprop(∃ g, ⌜g = f⌝ ∗ ℓ ↦[I]{fullShare} g) := by
  iintro H; iexists f; isplitr
  · ipureintro; rfl
  · iexact H

theorem owes_named {c : Thread nD τ} {O : CellTallies nD τ sig (HIx 1)} (W : Waits sig (HIx 1)) : (owes c O W : sProp 𝕄) ⊢ iprop(∃ W', ⌜W' = W⌝ ∗ owes c O W') := by
  iintro H; iexists W; isplitr
  · ipureintro; rfl
  · iexact H

/-- Chunk `r` of the worker's classes, as the body slices it out of the scores. -/
abbrev chunk (L : grid0.Coords) (r : Fin 4) : Memref sig .scVector .hbm S384x128 .f32 :=
  (tV).slice (Rect.unit (s := S100000x128) (k0_off1 L (BitVec.ofNat 32 (384 * r.val))) S384x128.size (k0_off1_inb L r)) (fun _ => rfl)

/-- Position `(w, y)` of a result. -/
abbrev cellW (w : Fin 32) (b : Fin 128) : S32x128.Idx := fun | 0 => w | 1 => b | ⟨_ + 2, h⟩ => absurd h (Nat.not_lt.2 (Nat.le_add_left _ _))

/-- Eight stores of sixteen lanes each, read back. -/
theorem pieces_read {κ : Kind} {sp : Space} {e : EltTy} (v : View sig κ sp S128 e) (f : v.ty.Contents (Elt F)) (G : Fin 128 → Elt F e) (p : Fin 8 → Vec F S16 e)
    (hp : ∀ g x, p g x = G (col g x)) (y : S128.Idx) :
    v.read (Elt F) (v.writes (Elt F) f [⟨Rect.unit ![112] S16.size inb_S128_S16_112, p 7⟩, ⟨Rect.unit ![96] S16.size inb_S128_S16_96, p 6⟩,
      ⟨Rect.unit ![80] S16.size inb_S128_S16_80, p 5⟩, ⟨Rect.unit ![64] S16.size inb_S128_S16_64, p 4⟩, ⟨Rect.unit ![48] S16.size inb_S128_S16_48, p 3⟩,
      ⟨Rect.unit ![32] S16.size inb_S128_S16_32, p 2⟩, ⟨Rect.unit ![16] S16.size inb_S128_S16_16, p 1⟩, ⟨Rect.unit ![0] S16.size inb_S128_S16_0, p 0⟩]) y = G (y 0) := by
  refine View.read_writes_apply_of_pieces _ _ (fun y => G (y 0)) _ ?_ y ?_
  · simp only [List.forall_mem_cons, List.not_mem_nil, false_imp_iff, implies_true, and_true]
    refine ⟨fun x => ?_, fun x => ?_, fun x => ?_, fun x => ?_, fun x => ?_, fun x => ?_, fun x => ?_, fun x => ?_⟩ <;>
      exact (hp _ x).trans (congrArg G (Fin.ext (by show _ + _ = _ + 1 * _; rw [Nat.one_mul]; rfl)))
  · exact View.cover_of_tiled _ ![16] rfl y

theorem emb_cellW (x : S128.Idx) : (mRowK L).view.emb x = cellW (wL L) (x 0) := by
  refine (Idealize.ShloMosaic.shapeCast_dropUnit_apply ![128] (fun k => (rowK L).emb k) squeezes_S1x128_S128.numel_eq x).trans (funext fun (a : Fin 2) => Fin.ext ?_)
  have ho := k0_off34_eq L
  match a with
  | 0 =>
    show k0_off34 L 0 + 1 * 0 = 2 * (L 1).val + (L 0).val
    rw [ho]; rfl
  | 1 =>
    show k0_off34 L 1 + 1 * (x 0).val = (x 0).val
    rw [ho]
    show 0 + 1 * (x 0).val = (x 0).val
    omega

theorem mRow_done (f g : Buf (Elt F) (mLoc d)) (h : ∀ y : S128.Idx, (mRowK L).view.read (Elt F) f y = g (cellW (wL L) (y 0))) :
    ((mRowK L).view.loc (V d (cV L) (jV L)) ↦[(mRowK L).view.set]{fullShare} f : sProp 𝕄) = mRow d (wL L) g := by
  rw [← pts_mRowK]
  refine pointsTo_congr fun i hi => ?_
  obtain ⟨x, -, rfl⟩ := Finset.mem_map.mp hi
  refine (h x).trans (congrArg g (emb_cellW L x).symm)

theorem iRow_done (f g : Buf (Elt F) (iLoc d)) (h : ∀ y : S128.Idx, (iRowK L).view.read (Elt F) f y = g (cellW (wL L) (y 0))) :
    ((iRowK L).view.loc (V d (cV L) (jV L)) ↦[(iRowK L).view.set]{fullShare} f : sProp 𝕄) = iRow d (wL L) g := by
  rw [← pts_iRowK]
  refine pointsTo_congr fun i hi => ?_
  obtain ⟨x, -, rfl⟩ := Finset.mem_map.mp hi
  refine (h x).trans (congrArg g (emb_cellW L x).symm)

theorem chunk_holds (x : Vec F S100000x128 .f32) (r : Fin 4) (κ : Kind) (buf : Memref sig κ .vmem S384x128 .f32) (f : buf.view.ty.Contents (Elt F)) :
    Holds x (wid L) (384 * r.val) (buf.view.read (Elt F) (View.write (Elt F) buf.view f ((chunk L r).view.read (Elt F) x) Finset.univ)) := by
  intro a b
  have h1 : (L 1).val < 16 := (L 1).isLt
  have h0 : (L 0).val < 2 := (L 0).isLt
  rw [View.read_write_univ]
  have ho := k0_off1_eq L r
  refine congrArg x (funext fun (e : Fin 2) => Fin.ext ?_)
  match e with
  | 0 =>
    show k0_off1 L (BitVec.ofNat 32 (384 * r.val)) 0 + 1 * a.val = (1536 * (2 * (L 1).val + (L 0).val) + (384 * r.val + a.val)) % 100000
    rw [ho]
    show 3072 * (L 1).val + 1536 * (L 0).val + 384 * r.val + 1 * a.val = _
    omega
  | 1 =>
    show k0_off1 L (BitVec.ofNat 32 (384 * r.val)) 1 + 1 * b.val = b.val
    rw [ho]
    show 0 + 1 * b.val = b.val
    omega

variable (xt : (d : Dev nD) → Buf (Elt F) (tLoc d)) (m₁ : (d : Dev nD) → Buf (Elt F) (mLoc d)) (m₂ : (d : Dev nD) → Buf (Elt F) (iLoc d))

set_option maxHeartbeats 2000000 in
theorem tile_body (hF : (K (F := F)).Facts) (O : CellTallies nD τ sig (HIx 1)) (W : Waits sig (HIx 1)) (hO : ∀ g, O g none = 0) :
    iprop(levAts (K (F := F)).L (K (F := F)).lev ∗ emp ∗ given xt m₁ m₂ d (wL L)
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0__sc_body L tV (Memref.isWhole_whole _) mV (Memref.isWhole_whole _) iV (Memref.isWhole_whole _) sA (Memref.isWhole_whole _) sB (Memref.isWhole_whole _)
            sM (Memref.isWhole_whole _) sI (Memref.isWhole_whole _) cc0_scratch4 cc0_scratch5 cc0_scoped0 cc0_scoped1)
          fun _ => iprop(made xt d (wL L) ∗ scopedBufs (V d (cV L) (jV L)) ∗ scopedSems0 (V d (cV L) (jV L))
            ∗ ∃ W', ⌜∀ p ∈ W', p ∈ W ∨ p.2 = none ∨ p.2 = some (0 : Fin 1)⌝ ∗ owes (V d (cV L) (jV L)) O W') := by
  rw [(K (F := F)).scopedBufs_V hF d (cV L) (jV L), SparseCore.Cfg.scopedSems0_V (Val := Elt F) d (cV L) (jV L), ownSems0_V, ownBufs_V]
  iintro ⟨#Hlv, -, ⟨Ht, Hm, Hi⟩, ⟨⟨%fa, Ha⟩, ⟨%fb, Hb⟩, ⟨%fm, Hsm⟩, ⟨%fi, Hsi⟩, Hbufs⟩, ⟨Hs0, Hs1, Hr0, Hr1, Hsems⟩, HO⟩
  ihave Hmw := (show levAts (K (F := F)).L (K (F := F)).lev ⊢ Transfers.MayWaits (V d (cV L) (jV L)) (default : HIx 1) O from
    (K (F := F)).mayWaits_none (thr := V d (cV L) (jV L)) hO) $$ Hlv
  ihave Ht' := (Entails.of_eq (pts_tV (F := F) d L _ _).symm) $$ Ht
  ihave Hm' := (Entails.of_eq (pts_mRowK (F := F) d L _).symm) $$ Hm
  ihave Hi' := (Entails.of_eq (pts_iRowK (F := F) d L _).symm) $$ Hi
  rw [cc0__sc_body_eq_skeleton]
  unfold cc0__sc_body_skel
  rw [k0_part1_eq_skeleton, k0_part2_eq_skeleton, k0_part3_eq_skeleton]
  unfold k0_part1_skel k0_part2_skel k0_part3_skel
  sl_exec
  rw [wp_bind]
  ihave H1 := (named _) $$ Ha
  icases H1 with ⟨%ga1, %ega1, Ha⟩
  have hga1 : Holds (xt d) (wid L) 0 ((sA).view.read (Elt F) ga1) := by
    rw [ega1]; sl_unfold_words; exact chunk_holds L (xt d) 0 _ sA fa
  sl_for (inv d L (xt d) sA ga1 0) $$ [Ha]
  case region =>
    exact fun k s => inv_step d L (xt d) sA (View.set_whole _) ga1 0 hga1 k s _ (congrFun (congrFun (t1_eq ..) k) s)
  · unfold inv
    isplitr
    · ipureintro; rfl
    · iexact Ha
  iintro %s1 HI
  unfold inv
  icases HI with ⟨%hs1, Ha⟩
  obtain ⟨a0, b0, a1, b1, a2, b2, a3, b3, a4, b4, a5, b5, a6, b6, a7, b7⟩ := s1
  rw [show 0 + Scf.trips k0_t1_loop.lb k0_t1_loop.ub k0_t1_loop.st = 384 from by decide] at hs1
  sl_exec
  ihave H1 := (named _) $$ Hb
  icases H1 with ⟨%ga2, %ega2, Hb⟩
  have hga2 : Holds (xt d) (wid L) 384 ((sB).view.read (Elt F) ga2) := by
    rw [ega2]; sl_unfold_words; exact chunk_holds L (xt d) 1 _ sB fb
  sl_for (inv d L (xt d) sB ga2 384) $$ [Hb]
  case region =>
    exact fun k s => inv_step d L (xt d) sB (View.set_whole _) ga2 384 hga2 k s _ (congrFun (congrFun (t2_eq ..) k) s)
  · unfold inv
    isplitr
    · ipureintro; exact hs1
    · iexact Hb
  iintro %s2 HI
  unfold inv
  icases HI with ⟨%hs2, Hb⟩
  obtain ⟨a0, b0, a1, b1, a2, b2, a3, b3, a4, b4, a5, b5, a6, b6, a7, b7⟩ := s2
  rw [show 384 + Scf.trips k0_t2_loop.lb k0_t2_loop.ub k0_t2_loop.st = 768 from by decide] at hs2
  sl_exec
  rw [wp_bind]
  sl_unfold_words
  ihave H1 := (named _) $$ Ha
  icases H1 with ⟨%ga3, %ega3, Ha⟩
  have hga3 : Holds (xt d) (wid L) 768 ((sA).view.read (Elt F) ga3) := by
    rw [ega3]; sl_unfold_words; exact chunk_holds L (xt d) 2 _ sA ga1
  sl_for (inv d L (xt d) sA ga3 768) $$ [Ha]
  case region =>
    exact fun k s => inv_step d L (xt d) sA (View.set_whole _) ga3 768 hga3 k s _ (congrFun (congrFun (t3_eq ..) k) s)
  · unfold inv
    isplitr
    · ipureintro; exact hs2
    · iexact Ha
  iintro %s3 HI
  unfold inv
  icases HI with ⟨%hs3, Ha⟩
  obtain ⟨a0, b0, a1, b1, a2, b2, a3, b3, a4, b4, a5, b5, a6, b6, a7, b7⟩ := s3
  rw [show 768 + Scf.trips k0_t3_loop.lb k0_t3_loop.ub k0_t3_loop.st = 1152 from by decide] at hs3
  sl_exec
  ihave H1 := (named _) $$ Hb
  icases H1 with ⟨%ga4, %ega4, Hb⟩
  have hga4 : Holds (xt d) (wid L) 1152 ((sB).view.read (Elt F) ga4) := by
    rw [ega4]; sl_unfold_words; exact chunk_holds L (xt d) 3 _ sB ga2
  sl_for (inv d L (xt d) sB ga4 1152) $$ [Hb]
  case region =>
    exact fun k s => inv_step d L (xt d) sB (View.set_whole _) ga4 1152 hga4 k s _ (congrFun (congrFun (t4_eq ..) k) s)
  · unfold inv
    isplitr
    · ipureintro; exact hs3
    · iexact Hb
  iintro %s4 HI
  unfold inv
  icases HI with ⟨%hs4, Hb⟩
  obtain ⟨a0, b0, a1, b1, a2, b2, a3, b3, a4, b4, a5, b5, a6, b6, a7, b7⟩ := s4
  rw [show 1152 + Scf.trips k0_t4_loop.lb k0_t4_loop.ub k0_t4_loop.st = 1536 from by decide] at hs4
  simp only [stAt, Prod.mk.injEq] at hs4
  obtain ⟨rfl, rfl, rfl, rfl, rfl, rfl, rfl, rfl, rfl, rfl, rfl, rfl, rfl, rfl, rfl, rfl⟩ := hs4
  clear hs1 hs2 hs3 hga1 hga2 hga3 hga4
  sl_exec
  ihave H1 := (named _) $$ Hm'
  icases H1 with ⟨%gm, %egm, Hm'⟩
  ihave H1 := (named _) $$ Hi'
  icases H1 with ⟨%gi, %egi, Hi'⟩
  have hm : ∀ y : S128.Idx, (mRowK L).view.read (Elt F) gm y = scM (xt d) (cellW (wL L) (y 0)) := by
    rw [egm]
    clear * -
    intro y
    sl_unfold_words
    refine (View.read_writes_apply_of_pieces _ _ (fun y => scM (xt d) (cellW (wL L) (y 0))) _ (List.forall_mem_singleton.2 fun x => ?_) y ⟨_, List.mem_singleton_self _, ?_⟩)
    · exact (pieces_read (sM).view fm (fun b => scM (xt d) (cellW (wL L) b)) (fun g => shapeCast S16 (mv (xt d) (wid L) 1536 g) shapeCasts_S16_S16)
        (fun g x => by rw [shapeCast_self]; rfl) x).trans (congrArg (fun b => scM (xt d) (cellW (wL L) b)) (Fin.ext (by show (x 0).val = 0 + 1 * (x 0).val; omega)))
    · rw [Rect.set_whole]; exact Finset.mem_univ _
  have hi : ∀ y : S128.Idx, (iRowK L).view.read (Elt F) gi y = scI (xt d) (cellW (wL L) (y 0)) := by
    rw [egi]
    clear * -
    intro y
    sl_unfold_words
    refine (View.read_writes_apply_of_pieces _ _ (fun y => scI (xt d) (cellW (wL L) (y 0))) _ (List.forall_mem_singleton.2 fun x => ?_) y ⟨_, List.mem_singleton_self _, ?_⟩)
    · exact (pieces_read (sI).view fi (fun b => scI (xt d) (cellW (wL L) b)) (fun g => shapeCast S16 (iv (xt d) (wid L) 1536 g) shapeCasts_S16_S16)
        (fun g x => by rw [shapeCast_self]; rfl) x).trans (congrArg (fun b => scI (xt d) (cellW (wL L) b)) (Fin.ext (by show (x 0).val = 0 + 1 * (x 0).val; omega)))
    · rw [Rect.set_whole]; exact Finset.mem_univ _
  clear egm egi ega1 ega2 ega3 ega4
  ihave Hm1 := (Entails.of_eq (mRow_done d L gm (scM (xt d)) hm)) $$ Hm'
  ihave Hi1 := (Entails.of_eq (iRow_done d L gi (scI (xt d)) hi)) $$ Hi'
  ihave Ht1 := (Entails.of_eq (pts_tV (F := F) d L _ _)) $$ Ht'
  rw [wp_ret]
  imodintro
  isplitl [Hm1 Hi1 Ht1]
  · isplitl [Ht1]; · iexact Ht1
    isplitl [Hm1]; · iexact Hm1
    iexact Hi1
  isplitl [Ha Hb Hsm Hsi Hbufs]
  · isplitl [Ha]; · iexists _; iexact Ha
    isplitl [Hb]; · iexists _; iexact Hb
    isplitl [Hsm]; · iexists _; iexact Hsm
    isplitl [Hsi]; · iexists _; iexact Hsi
    iexact Hbufs
  isplitl [Hs0 Hs1 Hr0 Hr1 Hsems]
  · isplitl [Hs0]; · iexact Hs0
    isplitl [Hs1]; · iexact Hs1
    isplitl [Hr0]; · iexact Hr0
    isplitl [Hr1]; · iexact Hr1
    iexact Hsems
  ihave H1 := (owes_named _) $$ HO
  icases H1 with ⟨%W', %eW, HO⟩
  iexists W'
  isplitr
  · ipureintro
    intro p hp
    rw [eW] at hp
    simp only [Finset.mem_insert] at hp
    rcases hp with h | h | h | h | h | h | h
    iterate 6 exact .inr (.inl (h ▸ rfl))
    exact .inl h
  · iexact HO

end Tile

end Cert.Proof.Sc

end
-- ==== Proof.Region1.lean ====
module

public import proofs.«01_k».proof.Proof.TcBody
public import proofs.«01_k».proof.Proof.TcEq
public import proofs.«01_k».proof.Proof.ScTile
public import proofs.«01_k».proof.Proof.Gen.KernelIdeal.Launch
public import Idealize.ShloMosaic.Lib.Pipeline.RegionArraysS

/-! The first TensorCore call as a region of @main: the proof data of its pipeline, the body obligation at every grid
    point, and the two results the region leaves. -/

@[expose] public section

noncomputable section

namespace Cert.Proof.Tc

open Cert.KernelIdeal Cert.KernelIdeal.Gen
open Idealize.ShloMosaic
open Idealize.ShloMosaic.TcCoe
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (Dat BodyObligationLoose)
open Cert.Proof.Spec
open Cert.Proof.Sc (UU 𝒱₀)

variable {F : FTy → Type} [FloatOps F]

local notation "𝕄" => MT nD τ sig (HIx 1) (Elt F) ℕ UU ℕ

/-- A buffer of the TensorCore's as a device buffer. -/
abbrev dref (b : Ref sig .tc) : DevRef τ sig := Proc.devRef .tc b

variable (V : Dev nD → Valuation τ sig (Elt F))

/-- The transposed scores the region reads. -/
abbrev xOf (c : Dev nD) : Vec F S100000x128 .f32 := V c (dref main_v0)

/-- The block point `t` fetches, inside the array. -/
def blk1 (c : Dev nD) (t : Fin cfg1.N) : (win1_0.xblock (grid1.coords t)).Idx → Elt F .f32 := (win1_0.blk t).view.read (Elt F) (V c (dref main_v0))

/-- The running vectors before point `t`; at the first point whatever is there. -/
def run1 (c : Dev nD) (t : Nat) : sProp 𝕄 :=
  iprop(∃ X4 X5, ⌜t ≠ 0 → X4 = tcM (xOf V c) (512 * t) ∧ X5 = tcI (xOf V c) (512 * t)⌝
    ∗ owns (T c) (Memref.whole cc1_scratch0) fullShare X4 ∗ owns (T c) (Memref.whole cc1_scratch1) fullShare X5)

/-- The other call's staging buffers, which this region does not touch. -/
def other1 (c : Dev nD) : sProp 𝕄 :=
  iprop((∃ f : Buf (Elt F) ((c : Thread nD τ).loc cc2_stg0_0), ((c : Thread nD τ).loc cc2_stg0_0) ↦{fullShare} f)
    ∗ (∃ f : Buf (Elt F) ((c : Thread nD τ).loc cc2_stg1_0), ((c : Thread nD τ).loc cc2_stg1_0) ↦{fullShare} f)
    ∗ (∃ f : Buf (Elt F) ((c : Thread nD τ).loc cc2_stg2_0), ((c : Thread nD τ).loc cc2_stg2_0) ↦{fullShare} f)
    ∗ (∃ f : Buf (Elt F) ((c : Thread nD τ).loc cc2_stg3_0), ((c : Thread nD τ).loc cc2_stg3_0) ↦{fullShare} f)
    ∗ (∃ f : Buf (Elt F) ((c : Thread nD τ).loc cc2_stg4_0), ((c : Thread nD τ).loc cc2_stg4_0) ↦{fullShare} f)
    ∗ (∃ f : Buf (Elt F) ((c : Thread nD τ).loc cc2_stg5_0), ((c : Thread nD τ).loc cc2_stg5_0) ↦{fullShare} f))

def dat1 (c : Dev nD) : Dat τ (Elt F) (HIx 1) ℕ UU ℕ cfg1 c where
  A w := match w with
    | ⟨0, _⟩ => V c (dref main_v0)
    | ⟨1, _⟩ => V c (dref main_v2_0)
    | ⟨2, _⟩ => V c (dref main_v2_1)
  after w t := match w with
    | ⟨0, _⟩ => win1_0.fill (grid1.coords t) (fun _ => Scalar.ofBits .f32 0#32) (blk1 V c t)
    | ⟨1, _⟩ => finM (xOf V c)
    | ⟨2, _⟩ => finI (xOf V c)
  Φ t := iprop(other1 c ∗ run1 V c t.val)
  q _ := fullShare
  owed _ := 0

theorem fetch1_0 (t : Fin cfg1.N) : (cfg1.win (0 : Fin 3)).fetch t = true := by
  rcases fin_N1 t with h | h | h | h | h | h | h | h | h | h | h | h | h <;> subst h <;> decide

theorem before1_0 (c : Dev nD) (t : Fin cfg1.N) (d) : (dat1 V c).before (0 : Fin 3) t d = win1_0.fill (grid1.coords t) d (blk1 V c t) := by
  unfold Dat.before; rw [if_pos (fetch1_0 t)]; rfl

theorem coord1 (t : Fin cfg1.N) : ((grid1.coords t) 0).val = t.val := by
  rcases fin_N1 t with h | h | h | h | h | h | h | h | h | h | h | h | h <;> subst h <;> decide
theorem off1 (t : Fin cfg1.N) : (win1_0.rect t).off = ![4096 * (12 + t.val), 0] := by
  rcases fin_N1 t with h | h | h | h | h | h | h | h | h | h | h | h | h <;> subst h <;> (funext a; fin_cases a <;> decide)
theorem xsize1 (t : Fin cfg1.N) : win1_0.xsize (grid1.coords t) 0 = min 4096 (100000 - 4096 * (12 + t.val)) ∧ win1_0.xsize (grid1.coords t) 1 = 128 := by
  rcases fin_N1 t with h | h | h | h | h | h | h | h | h | h | h | h | h <;> subst h <;> decide

/-- The fetched block holds the classes' scores. -/
theorem bholds1 (c : Dev nD) (t : Fin cfg1.N) (d : S4096x128.Idx → Elt F .f32) : BHolds (xOf V c) t.val (win1_0.fill (grid1.coords t) d (blk1 V c t)) := by
  intro r b h
  have ht : t.val < 13 := by have := t.isLt; have := N_1; omega
  have hm : win1_0.moved (grid1.coords t) (rcell r b) = true := (win1_0.moved_iff _ _).2 fun a => by
    match a with
    | ⟨0, _⟩ => have h1 := (xsize1 t).1; have h2 := r.isLt; show r.val < win1_0.xsize (grid1.coords t) 0; omega
    | ⟨1, _⟩ => have h1 := (xsize1 t).2; have h2 := b.isLt; show b.val < win1_0.xsize (grid1.coords t) 1; omega
  unfold Pipeline.Window.fill
  rw [dif_pos hm]
  unfold blk1
  refine congrArg (xOf V c) (funext fun a => Fin.ext ?_)
  have ho := off1 t
  match a with
  | ⟨0, _⟩ =>
    show (win1_0.rect t).off 0 + 1 * r.val = (49152 + (4096 * t.val + r.val)) % 100000
    rw [ho, Nat.mod_eq_of_lt h]
    show 4096 * (12 + t.val) + 1 * r.val = _
    omega
  | ⟨1, _⟩ =>
    show (win1_0.rect t).off 1 + 1 * b.val = b.val
    rw [ho]
    show 0 + 1 * b.val = _
    omega

theorem idle1_1 (t : Fin cfg1.N) (h : t.val < 12) : idle1 1 (grid1.coords t) = true ∧ (win1 1).flush t = false
    ∧ idle1 2 (grid1.coords t) = true ∧ (win1 2).flush t = false := by
  rcases fin_N1 t with h | h | h | h | h | h | h | h | h | h | h | h | h <;> subst h <;> first | decide | (exfalso; revert h; decide)
theorem busy1_1 (t : Fin cfg1.N) (h : t.val = 12) : idle1 1 (grid1.coords t) = false ∧ (win1 1).flush t = true
    ∧ idle1 2 (grid1.coords t) = false ∧ (win1 2).flush t = true := by
  rcases fin_N1 t with h | h | h | h | h | h | h | h | h | h | h | h | h <;> subst h <;> first | decide | (exfalso; revert h; decide)

theorem body1_eq (t : Fin cfg1.N) : defs₀ (F := F) .tc cfg1.body (cfg1.bodyArgs t (cfg1.slots t))
    = body (grid1.coords t) (win1_0.stage (cfg1.slots t 0)) (win1_1.stage (cfg1.slots t 1)) (win1_2.stage (cfg1.slots t 2)) (Memref.whole cc1_scratch0) (Memref.whole cc1_scratch1) :=
  body_eq _ _ _ _ _ _ _ _ _ _ _

/-- The body at every point: before the last it folds its block into the running vectors, at the last it also writes the results. -/
theorem body_obligation1 (c : Dev nD) : BodyObligationLoose (dat1 V c) (defs₀ (F := F)) 𝒱₀ none Set.univ := fun t => by
  have ht : t.val < 13 := lt_of_lt_of_eq t.isLt N_1
  rw [bigSep_W1, bigSep_W1, body1_eq]
  simp only
  rw [show (dat1 V c).Φ t.castSucc = iprop(other1 c ∗ run1 V c t.val) from rfl,
    show (dat1 V c).Φ t.succ = iprop(other1 c ∗ run1 V c (t.val + 1)) from rfl,
    show (dat1 V c).owesAt none t.succ = (dat1 V c).owesAt none t.castSucc from rfl]
  have hc : win1_0.cut (grid1.coords t) ((dat1 V c).after (0 : Fin 3) t) = blk1 V c t := win1_0.cut_fill _ _ _
  rcases Nat.lt_or_ge t.val 12 with h | h
  · obtain ⟨i1, f1, i2, f2⟩ := idle1_1 t h
    rw [i1, f1, f2]
    simp only
    unfold run1
    iintro ⟨⟨Hoth, %X4, %X5, %h45, H4, H5⟩, Ho, ⟨%d0, H0⟩, ⟨%d1, H1⟩, ⟨%d2, H2⟩⟩
    rw [before1_0 V c t d0]
    iapply (wp_body_hot (F := F) c (grid1.coords t) _ (win1_1.stage (cfg1.slots t 1)) (win1_2.stage (cfg1.slots t 2)) _ _ (xOf V c) t.val h (coord1 t)
      (win1_0.fill (grid1.coords t) d0 (blk1 V c t)) (bholds1 V c t d0) X4 X5 h45 _)
    isplitl [H0 H4 H5]
    · isplitl [H0]; · iexact H0
      isplitl [H4]; · iexact H4
      iexact H5
    iintro ⟨H0, H4, H5⟩
    isplitl [Hoth H4 H5]
    · isplitl [Hoth]; · iexact Hoth
      iexists _; iexists _
      isplitr
      · ipureintro; exact fun _ => ⟨rfl, rfl⟩
      isplitl [H4]; · iexact H4
      iexact H5
    isplitl [Ho]; · iexact Ho
    isplitl [H0]
    · iexists d0
      change _ ⊢ owns (T c) (win1_0.stage (cfg1.slots t 0)) fullShare (win1_0.fill (grid1.coords t) d0 (win1_0.cut (grid1.coords t) ((dat1 V c).after (0 : Fin 3) t)))
      rw [hc]
    isplitl [H1]
    · iexists d1; iexact H1
    · iexists d2; iexact H2
  · have h12 : t.val = 12 := by omega
    obtain ⟨i1, f1, i2, f2⟩ := busy1_1 t h12
    rw [i1]
    simp only
    unfold run1
    iintro ⟨⟨Hoth, %X4, %X5, %h45, H4, H5⟩, Ho, ⟨%d0, H0⟩, ⟨%d1, H1⟩, ⟨%d2, H2⟩⟩
    rw [before1_0 V c t d0]
    have h4 := h45 (by omega)
    rw [h12] at h4
    have hb := bholds1 V c t d0
    rw [h12] at hb
    iapply (wp_body_last (F := F) c (grid1.coords t) (win1_0.stage (cfg1.slots t 0)) (win1_1.stage (cfg1.slots t 1)) (win1_2.stage (cfg1.slots t 2)) (Memref.whole cc1_scratch0) (Memref.whole cc1_scratch1)
      (xOf V c) ((coord1 t).trans h12) (win1_0.fill (grid1.coords t) d0 (blk1 V c t)) hb _ _ X4 X5 h4.1 h4.2 _)
    isplitl [H0 H1 H2 H4 H5]
    · isplitl [H0]; · iexact H0
      isplitl [H1]; · iexact H1
      isplitl [H2]; · iexact H2
      isplitl [H4]; · iexact H4
      iexact H5
    iintro ⟨H0, H1, H2, H4, H5⟩
    isplitl [Hoth H4 H5]
    · isplitl [Hoth]; · iexact Hoth
      iexists _; iexists _
      isplitr
      · ipureintro; rw [h12]; exact fun _ => ⟨rfl, rfl⟩
      isplitl [H4]; · iexact H4
      iexact H5
    isplitl [Ho]; · iexact Ho
    isplitl [H0]
    · iexists d0
      change _ ⊢ owns (T c) (win1_0.stage (cfg1.slots t 0)) fullShare (win1_0.fill (grid1.coords t) d0 (win1_0.cut (grid1.coords t) ((dat1 V c).after (0 : Fin 3) t)))
      rw [hc]
    isplitl [H1]
    · iexact H1
    · iexact H2

/-! ### What the region leaves -/

theorem noflush1 (t : Fin cfg1.N) (h : t.val < 12) : (cfg1.win (1 : Fin 3)).flush t = false ∧ (cfg1.win (2 : Fin 3)).flush t = false :=
  ⟨(idle1_1 t h).2.1, (idle1_1 t h).2.2.2⟩

theorem arr1_early (c : Dev nD) : ∀ n, n ≤ 12 → (dat1 V c).arrAt (1 : Fin 3) n = V c (dref main_v2_0) ∧ (dat1 V c).arrAt (2 : Fin 3) n = V c (dref main_v2_1)
  | 0, _ => ⟨rfl, rfl⟩
  | n + 1, h => by
    obtain ⟨h1, h2⟩ := arr1_early c n (by omega)
    have hn : n < cfg1.N := by have := N_1; show n < grid1.N; omega
    obtain ⟨f1, f2⟩ := noflush1 ⟨n, hn⟩ (by show n < 12; omega)
    constructor
    · rw [show n + 1 = (⟨n, hn⟩ : Fin cfg1.N).val + 1 from rfl, (dat1 V c).arrAt_succ (1 : Fin 3) ⟨n, hn⟩, f1]; exact h1
    · rw [show n + 1 = (⟨n, hn⟩ : Fin cfg1.N).val + 1 from rfl, (dat1 V c).arrAt_succ (2 : Fin 3) ⟨n, hn⟩, f2]; exact h2

theorem arr1_1 (c : Dev nD) : (dat1 V c).arrAt (1 : Fin 3) cfg1.N = finM (xOf V c) := by
  rw [show cfg1.N = t1_12.val + 1 from rfl, (dat1 V c).arrAt_succ (1 : Fin 3) t1_12, if_pos (busy1_1 t1_12 rfl).2.1, show t1_12.val = 12 from rfl,
    (arr1_early V c 12 (le_refl _)).1]
  have hz : (fun a => win1_1.index t1_12 a * main_v2_0.ty.shape.size a) = fun _ => 0 := funext fun a => by fin_cases a <;> decide
  exact Memref.write_access_unit_zero_univ (Elt F) main_v2_0 hz (fun a => by rw [congrFun hz a]; simp) _ _
theorem arr1_2 (c : Dev nD) : (dat1 V c).arrAt (2 : Fin 3) cfg1.N = finI (xOf V c) := by
  rw [show cfg1.N = t1_12.val + 1 from rfl, (dat1 V c).arrAt_succ (2 : Fin 3) t1_12, if_pos (busy1_1 t1_12 rfl).2.2.2, show t1_12.val = 12 from rfl,
    (arr1_early V c 12 (le_refl _)).2]
  have hz : (fun a => win1_2.index t1_12 a * main_v2_1.ty.shape.size a) = fun _ => 0 := funext fun a => by fin_cases a <;> decide
  exact Memref.write_access_unit_zero_univ (Elt F) main_v2_1 hz (fun a => by rw [congrFun hz a]; simp) _ _

end Cert.Proof.Tc

end
-- ==== Proof.Region2.lean ====
module

public import proofs.«01_k».proof.Proof.Region1

/-! The last TensorCore call as a region of @main: what it computes from its five operands, the body's run, the proof
    data of its pipeline, and the result the region leaves. -/

@[expose] public section

noncomputable section

namespace Cert.Proof.Tc

open Cert.KernelIdeal Cert.KernelIdeal.Gen
open Idealize.ShloMosaic
open Idealize.ShloMosaic.TcCoe
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (Dat BodyObligationLoose)
open Cert.Proof.Spec
open Cert.Proof.Sc (UU 𝒱₀)

variable {F : FTy → Type} [FloatOps F]

local notation "𝕄" => MT nD τ sig (HIx 1) (Elt F) ℕ UU ℕ

/-! ### The value -/

/-- The maximum of each column, over the workers' and the rest. -/
def topM (a0 : FVec F S32x128 .f32) (a2 : FVec F S1x128 .f32) : FVec F S1x128 .f32 :=
  maximumf (shapeCast S1x128 (multiReduction .maximumf [0] S128 a0 0xFF800000#32 reduces_S32x128_S128 (.inl rfl) rfl) shapeCasts_S128_S1x128) a2

/-- The least class at which a column has its maximum. -/
def topI (a0 : FVec F S32x128 .f32) (a1 : IVec S32x128 32) (a2 : FVec F S1x128 .f32) (a3 : IVec S1x128 32) : IVec S1x128 32 :=
  minsi (shapeCast S1x128 (multiReductionI .minsi [0] S128
      (select (cmpf .oeq a0 (broadcastTo S32x128 (topM a0 a2) broadcasts_S1x128_S32x128)) a1 (broadcast S32x128 1073741824#32)) 2147483647#32 reduces_S32x128_S128 rfl) shapeCasts_S128_S1x128)
    (select (cmpf .oeq a2 (topM a0 a2)) a3 (broadcast S1x128 1073741824#32))

/-- The number of columns whose class is the target, scaled. -/
def score (best : IVec S1x128 32) (a4 : IVec S128 32) : F .f32 :=
  Scalar.mulf (extractAt ![0, 0, 0] (shapeCast S1x1x1 (multiReduction .add [1, 2] S1
    (shapeCast S1x1x128 (sitofp .f32 (extui 32 (cmpi .eq best (shapeCast S1x128 a4 shapeCasts_S128_S1x128)) natLt_1_32) : FVec F S1x128 .f32) shapeCasts_S1x128_S1x1x128)
    0x00000000#32 reduces_S1x1x128_S1 (.inl rfl) rfl) shapeCasts_S1_S1x1x1) inpos_S1x1x1_p0_0_0) (Scalar.ofBits .f32 0x3F480000#32)

def finOut (a0 : FVec F S32x128 .f32) (a1 : IVec S32x128 32) (a2 : FVec F S1x128 .f32) (a3 : IVec S1x128 32) (a4 : IVec S128 32) : FVec F S1 .f32 :=
  fun _ => score (topI a0 a1 a2 a3) a4

/-! ### The body -/

theorem wp_finalize (d : Dev nD) (a0 : Vec F S32x128 .f32) (a1 : Vec F S32x128 .i32) (a2 : Vec F S1x128 .f32) (a3 : Vec F S1x128 .i32) (a4 : Vec F S128 .i32) (a5 : Vec F S1 .f32)
    (Q : PUnit → sProp 𝕄) :
    iprop((((SparseCore.T d).loc cc2_stg0_0 ↦{fullShare} a0) ∗ ((SparseCore.T d).loc cc2_stg1_0 ↦{fullShare} a1) ∗ ((SparseCore.T d).loc cc2_stg2_0 ↦{fullShare} a2)
        ∗ ((SparseCore.T d).loc cc2_stg3_0 ↦{fullShare} a3) ∗ ((SparseCore.T d).loc cc2_stg4_0 ↦{fullShare} a4) ∗ ((SparseCore.T d).loc cc2_stg5_0 ↦{fullShare} a5))
        ∗ ((((SparseCore.T d).loc cc2_stg0_0 ↦{fullShare} a0) ∗ ((SparseCore.T d).loc cc2_stg1_0 ↦{fullShare} a1) ∗ ((SparseCore.T d).loc cc2_stg2_0 ↦{fullShare} a2)
        ∗ ((SparseCore.T d).loc cc2_stg3_0 ↦{fullShare} a3) ∗ ((SparseCore.T d).loc cc2_stg4_0 ↦{fullShare} a4) ∗ ((SparseCore.T d).loc cc2_stg5_0 ↦{fullShare} (finOut a0 a1 a2 a3 a4 : Vec F S1 .f32))) -∗ Q ⟨⟩))
      ⊢ wp frame (wpE (defs₀ (F := F)) 𝒱₀ (T d) none) Set.univ
          (cc2__finalize_body (Memref.whole cc2_stg0_0) (Memref.isWhole_whole _) (Memref.whole cc2_stg1_0) (Memref.isWhole_whole _) (Memref.whole cc2_stg2_0) (Memref.isWhole_whole _)
            (Memref.whole cc2_stg3_0) (Memref.isWhole_whole _) (Memref.whole cc2_stg4_0) (Memref.isWhole_whole _) (Memref.whole cc2_stg5_0) (Memref.isWhole_whole _)) Q := by
  have hz : (![0, 0] : Fin 2 → Nat) = fun _ => 0 := funext fun a => by fin_cases a <;> rfl
  have hz1 : (![0] : Fin 1 → Nat) = fun _ => 0 := funext fun a => by fin_cases a; rfl
  have r0 : (Memref.whole cc2_stg0_0 : Memref sig .tc _ _ _).view.readAt (Elt F) (Rect.unit (s := S32x128) ![0, 0] S32x128.size inb_S32x128_S32x128_0_0).toLoadRect = id :=
    funext (Memref.readAt_unit_zero (Elt F) cc2_stg0_0 hz _)
  have r1 : (Memref.whole cc2_stg1_0 : Memref sig .tc _ _ _).view.readAt (Elt F) (Rect.unit (s := S32x128) ![0, 0] S32x128.size inb_S32x128_S32x128_0_0).toLoadRect = id :=
    funext (Memref.readAt_unit_zero (Elt F) cc2_stg1_0 hz _)
  have r2 : (Memref.whole cc2_stg2_0 : Memref sig .tc _ _ _).view.readAt (Elt F) (Rect.unit (s := S1x128) ![0, 0] S1x128.size inb_S1x128_S1x128_0_0).toLoadRect = id :=
    funext (Memref.readAt_unit_zero (Elt F) cc2_stg2_0 hz _)
  have r3 : (Memref.whole cc2_stg3_0 : Memref sig .tc _ _ _).view.readAt (Elt F) (Rect.unit (s := S1x128) ![0, 0] S1x128.size inb_S1x128_S1x128_0_0).toLoadRect = id :=
    funext (Memref.readAt_unit_zero (Elt F) cc2_stg3_0 hz _)
  have r4 : (Memref.whole cc2_stg4_0 : Memref sig .tc _ _ _).view.readAt (Elt F) (Rect.unit (s := S128) ![0] S128.size inb_S128_S128_0).toLoadRect = id :=
    funext (Memref.readAt_unit_zero (Elt F) cc2_stg4_0 hz1 _)
  have w5 : ∀ f w, (((Memref.whole cc2_stg5_0).access (Rect.unit (s := S1) ![0] S1.size inb_S1_S1_0)) : View sig .tc _ _ _).write (Elt F) f w Finset.univ = w :=
    Memref.write_access_unit_zero_univ (Elt F) cc2_stg5_0 hz1 _
  unfold cc2__finalize_body
  simp only [smemLoad, smemLoadElt, Prog.lift, Prog.bind_op, Prog.bind_ret, Prog.pure_eq_ret]
  iintro ⟨⟨H0, H1, H2, H3, H4, H5⟩, Hk⟩
  sl_steps
  rw [w5, r0, r1, r2, r3, r4]
  simp only [shapeCast_self, id]
  iapply Hk
  isplitl [H0]; · iexact H0
  isplitl [H1]; · iexact H1
  isplitl [H2]; · iexact H2
  isplitl [H3]; · iexact H3
  isplitl [H4]; · iexact H4
  iexact H5

/-! ### The region -/

variable (V : Dev nD → Valuation τ sig (Elt F))

/-- What the region leaves in the result. -/
def outOf (c : Dev nD) : FVec F S1 .f32 :=
  finOut (V c (dref main_v1_0)) (V c (dref main_v1_1)) (V c (dref main_v2_0)) (V c (dref main_v2_1)) (V c (dref main_arg1))

def dat2 (c : Dev nD) : Dat τ (Elt F) (HIx 1) ℕ UU ℕ cfg2 c where
  A w := match w with
    | ⟨0, _⟩ => V c (dref main_v1_0)
    | ⟨1, _⟩ => V c (dref main_v1_1)
    | ⟨2, _⟩ => V c (dref main_v2_0)
    | ⟨3, _⟩ => V c (dref main_v2_1)
    | ⟨4, _⟩ => V c (dref main_arg1)
    | ⟨5, _⟩ => V c (dref main_v3)
  after w t := match w with
    | ⟨0, _⟩ => V c (dref main_v1_0)
    | ⟨1, _⟩ => V c (dref main_v1_1)
    | ⟨2, _⟩ => V c (dref main_v2_0)
    | ⟨3, _⟩ => V c (dref main_v2_1)
    | ⟨4, _⟩ => V c (dref main_arg1)
    | ⟨5, _⟩ => outOf V c
  Φ t := Pipeline.scopedRest spec2 c
  q _ := fullShare
  owed _ := 0

theorem before2_0 (c : Dev nD) (d) : (dat2 V c).before (0 : Fin 6) t2_0 d = V c (dref main_v1_0) := by
  unfold Dat.before; rw [if_pos (by decide)]
  have hz : (fun a => win2_0.index t2_0 a * main_v1_0.ty.shape.size a) = fun _ => 0 := funext fun a => by fin_cases a <;> decide
  exact Memref.read_access_unit_zero (Elt F) main_v1_0 hz (fun a => by rw [congrFun hz a]; simp) _
theorem before2_1 (c : Dev nD) (d) : (dat2 V c).before (1 : Fin 6) t2_0 d = V c (dref main_v1_1) := by
  unfold Dat.before; rw [if_pos (by decide)]
  have hz : (fun a => win2_1.index t2_0 a * main_v1_1.ty.shape.size a) = fun _ => 0 := funext fun a => by fin_cases a <;> decide
  exact Memref.read_access_unit_zero (Elt F) main_v1_1 hz (fun a => by rw [congrFun hz a]; simp) _
theorem before2_2 (c : Dev nD) (d) : (dat2 V c).before (2 : Fin 6) t2_0 d = V c (dref main_v2_0) := by
  unfold Dat.before; rw [if_pos (by decide)]
  have hz : (fun a => win2_2.index t2_0 a * main_v2_0.ty.shape.size a) = fun _ => 0 := funext fun a => by fin_cases a <;> decide
  exact Memref.read_access_unit_zero (Elt F) main_v2_0 hz (fun a => by rw [congrFun hz a]; simp) _
theorem before2_3 (c : Dev nD) (d) : (dat2 V c).before (3 : Fin 6) t2_0 d = V c (dref main_v2_1) := by
  unfold Dat.before; rw [if_pos (by decide)]
  have hz : (fun a => win2_3.index t2_0 a * main_v2_1.ty.shape.size a) = fun _ => 0 := funext fun a => by fin_cases a <;> decide
  exact Memref.read_access_unit_zero (Elt F) main_v2_1 hz (fun a => by rw [congrFun hz a]; simp) _
theorem before2_4 (c : Dev nD) (d) : (dat2 V c).before (4 : Fin 6) t2_0 d = V c (dref main_arg1) := by
  unfold Dat.before; rw [if_pos (by decide)]
  have hz : (fun a => win2_4.index t2_0 a * main_arg1.ty.shape.size a) = fun _ => 0 := funext fun a => by fin_cases a <;> decide
  exact Memref.read_access_unit_zero (Elt F) main_arg1 hz (fun a => by rw [congrFun hz a]; simp) _

theorem body_obligation2 (c : Dev nD) : BodyObligationLoose (dat2 V c) (defs₀ (F := F)) 𝒱₀ none Set.univ := fun t => by
  obtain rfl := fin_N2 t
  rw [bigSep_W2, bigSep_W2]
  simp only
  rw [show (dat2 V c).Φ t2_0.succ = (dat2 V c).Φ t2_0.castSucc from rfl,
    show (dat2 V c).owesAt none t2_0.succ = (dat2 V c).owesAt none t2_0.castSucc from rfl]
  iintro ⟨HΦ, Ho, ⟨%d0, H0⟩, ⟨%d1, H1⟩, ⟨%d2, H2⟩, ⟨%d3, H3⟩, ⟨%d4, H4⟩, ⟨%d5, H5⟩⟩
  rw [before2_0 V c d0, before2_1 V c d1, before2_2 V c d2, before2_3 V c d3, before2_4 V c d4]
  ihave K0 := (Entails.of_eq (owns_whole_eq (SparseCore.T c) cc2_stg0_0 fullShare _)) $$ H0
  ihave K1 := (Entails.of_eq (owns_whole_eq (SparseCore.T c) cc2_stg1_0 fullShare _)) $$ H1
  ihave K2 := (Entails.of_eq (owns_whole_eq (SparseCore.T c) cc2_stg2_0 fullShare _)) $$ H2
  ihave K3 := (Entails.of_eq (owns_whole_eq (SparseCore.T c) cc2_stg3_0 fullShare _)) $$ H3
  ihave K4 := (Entails.of_eq (owns_whole_eq (SparseCore.T c) cc2_stg4_0 fullShare _)) $$ H4
  ihave K5 := (Entails.of_eq (owns_whole_eq (SparseCore.T c) cc2_stg5_0 fullShare _)) $$ H5
  icases K0 with ⟨%f0, %h0, K0⟩
  icases K1 with ⟨%f1, %h1, K1⟩
  icases K2 with ⟨%f2, %h2, K2⟩
  icases K3 with ⟨%f3, %h3, K3⟩
  icases K4 with ⟨%f4, %h4, K4⟩
  icases K5 with ⟨%f5, %h5, K5⟩
  iapply (wp_finalize (F := F) c f0 f1 f2 f3 f4 f5 _)
  isplitl [K0 K1 K2 K3 K4 K5]
  · isplitl [K0]; · iexact K0
    isplitl [K1]; · iexact K1
    isplitl [K2]; · iexact K2
    isplitl [K3]; · iexact K3
    isplitl [K4]; · iexact K4
    iexact K5
  iintro ⟨K0, K1, K2, K3, K4, K5⟩
  isplitl [HΦ]; · iexact HΦ
  isplitl [Ho]; · iexact Ho
  isplitl [K0]
  · iapply (Entails.of_eq (owns_whole_eq (SparseCore.T c) cc2_stg0_0 fullShare (V c (dref main_v1_0))).symm)
    iexists f0; isplitr; · ipureintro; exact h0
    iexact K0
  isplitl [K1]
  · iapply (Entails.of_eq (owns_whole_eq (SparseCore.T c) cc2_stg1_0 fullShare (V c (dref main_v1_1))).symm)
    iexists f1; isplitr; · ipureintro; exact h1
    iexact K1
  isplitl [K2]
  · iapply (Entails.of_eq (owns_whole_eq (SparseCore.T c) cc2_stg2_0 fullShare (V c (dref main_v2_0))).symm)
    iexists f2; isplitr; · ipureintro; exact h2
    iexact K2
  isplitl [K3]
  · iapply (Entails.of_eq (owns_whole_eq (SparseCore.T c) cc2_stg3_0 fullShare (V c (dref main_v2_1))).symm)
    iexists f3; isplitr; · ipureintro; exact h3
    iexact K3
  isplitl [K4]
  · iapply (Entails.of_eq (owns_whole_eq (SparseCore.T c) cc2_stg4_0 fullShare (V c (dref main_arg1))).symm)
    iexists f4; isplitr; · ipureintro; exact h4
    iexact K4
  · iapply (Entails.of_eq (owns_whole_eq (SparseCore.T c) cc2_stg5_0 fullShare (outOf V c)).symm)
    iexists _; isplitr
    rotate_left
    · iexact K5
    · ipureintro; show finOut f0 f1 f2 f3 f4 = outOf V c; unfold outOf; rw [h0, h1, h2, h3, h4]

theorem arr2_5 (c : Dev nD) : (dat2 V c).arrAt (5 : Fin 6) cfg2.N = outOf V c := by
  rw [show cfg2.N = t2_0.val + 1 from rfl, (dat2 V c).arrAt_succ (5 : Fin 6) t2_0, if_pos (by decide)]
  have hz : (fun a => win2_5.index t2_0 a * main_v3.ty.shape.size a) = fun _ => 0 := funext fun a => by fin_cases a <;> decide
  exact Memref.write_access_unit_zero_univ (Elt F) main_v3 hz (fun a => by rw [congrFun hz a]; simp) _ _

end Cert.Proof.Tc

end
-- ==== Proof.ScLaunch.lean ====
module

public import proofs.«01_k».proof.Proof.ScTile

@[expose] public section

noncomputable section

namespace Cert.Proof.Sc

open Cert.KernelIdeal Cert.KernelIdeal.Gen Cert.Proof.Spec
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

local notation "tV" => (Memref.whole Cert.KernelIdeal.main_v0_scv : Memref Cert.KernelIdeal.sig Kind.scVector Space.hbm Cert.KernelIdeal.S100000x128 EltTy.f32)
local notation "mV" => (Memref.whole Cert.KernelIdeal.main_v1_0_scv : Memref Cert.KernelIdeal.sig Kind.scVector Space.hbm Cert.KernelIdeal.S32x128 EltTy.f32)
local notation "iV" => (Memref.whole Cert.KernelIdeal.main_v1_1_scv : Memref Cert.KernelIdeal.sig Kind.scVector Space.hbm Cert.KernelIdeal.S32x128 EltTy.i32)
local notation "sA" => (Memref.whole Cert.KernelIdeal.cc0_scratch0 : Memref Cert.KernelIdeal.sig Kind.scVector Space.vmem Cert.KernelIdeal.S384x128 EltTy.f32)
local notation "sB" => (Memref.whole Cert.KernelIdeal.cc0_scratch1 : Memref Cert.KernelIdeal.sig Kind.scVector Space.vmem Cert.KernelIdeal.S384x128 EltTy.f32)
local notation "sM" => (Memref.whole Cert.KernelIdeal.cc0_scratch2 : Memref Cert.KernelIdeal.sig Kind.scVector Space.vmem Cert.KernelIdeal.S128 EltTy.f32)
local notation "sI" => (Memref.whole Cert.KernelIdeal.cc0_scratch3 : Memref Cert.KernelIdeal.sig Kind.scVector Space.vmem Cert.KernelIdeal.S128 EltTy.i32)

variable (xt : (d : Dev nD) → Buf (Elt F) (tLoc d)) (m₁ : (d : Dev nD) → Buf (Elt F) (mLoc d)) (m₂ : (d : Dev nD) → Buf (Elt F) (iLoc d))

/-! ## Every tile meets its obligation -/

/-- The grid point of one tile. -/
def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0__sc_body (coordsV c s)
          tV (Memref.isWhole_whole _) mV (Memref.isWhole_whole _) iV (Memref.isWhole_whole _)
          sA (Memref.isWhole_whole _) sB (Memref.isWhole_whole _) sM (Memref.isWhole_whole _) sI (Memref.isWhole_whole _)
          cc0_scratch4 cc0_scratch5 cc0_scoped0 cc0_scoped1) ⟨⟩ c s := rfl

theorem tileObl (hF : (K (F := F)).Facts) : (K (F := F)).TileObl (D (F := F)) 𝒱 (P xt m₁ m₂) v₀ 0 := by
  intro d c i O W hO _ _
  simp only [show (P xt m₁ m₂).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact tile_body d (coordsV ⟨_, hci.1⟩ ⟨_, hci.2⟩) xt m₁ m₂ hF O W hO

omit [FloatOps F] in
theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)

/-- A SparseCore's share is its sixteen tiles' shares, and comes back from them. -/
theorem vecSplit : (K (F := F)).VecSplit' (P xt m₁ m₂) 0 := by
  intro d c
  show (bigSep Finset.univ fun i : Fin 16 => given xt m₁ m₂ d (wk (Fin.cast nCore_zero c) i)) ⊢ |={Set.univ}=> iprop(
      (bigSep Finset.univ fun i : Fin ((K (F := F)).nSub 0) => given xt m₁ m₂ d (wk (Fin.cast nCore_zero c) (Fin.cast nSub_zero i)))
      ∗ ((bigSep Finset.univ fun i : Fin ((K (F := F)).nSub 0) => made xt d (wk (Fin.cast nCore_zero c) (Fin.cast nSub_zero i)))
          -∗ bigSep Finset.univ fun i : Fin 16 => made xt d (wk (Fin.cast nCore_zero c) i)))
  rw [bigSep_tasks (F := F) (fun i => given xt m₁ m₂ d (wk (Fin.cast nCore_zero c) i)),
    bigSep_tasks (F := F) (fun i => made xt d (wk (Fin.cast nCore_zero c) i))]
  iintro H; imodintro
  isplitl [H]; · iexact H
  iintro H; iexact H

/-! ## The arrays split among the thirty-two workers and join again -/

/-- Every worker is one tile of one SparseCore. -/
def workers : Fin 2 × Fin 16 ≃ Fin 32 where
  toFun p := wk p.1 p.2
  invFun w := (⟨w.val % 2, by omega⟩, ⟨w.val / 2, by omega⟩)
  left_inv p := by
    obtain ⟨c, i⟩ := p
    apply Prod.ext <;> apply Fin.ext
    · show (2 * i.val + c.val) % 2 = c.val; omega
    · show (2 * i.val + c.val) / 2 = i.val; omega
  right_inv w := Fin.ext (by show 2 * (w.val / 2) + w.val % 2 = w.val; omega)

omit [FloatOps F] in
theorem bigSep_workers (Φ : Fin 32 → sProp 𝕄) :
    (bigSep Finset.univ fun c : Fin ((K (F := F)).nCore 0) => bigSep Finset.univ fun i : Fin 16 => Φ (wk (Fin.cast nCore_zero c) i)) = bigSep Finset.univ Φ := by
  rw [BI.bigSep_univ_equiv workers Φ, BI.bigSep_univ_prod]
  rfl

omit [FloatOps F] in
theorem rowSet_eq (w : Fin 32) : rowSet w = (row w).set := by
  show ((View.whole (main_v1_0_scv : Ref sig .scVector)).slice (row w)).set = _
  rw [View.set_slice]; exact Finset.map_refl
omit [FloatOps F] in
theorem rows_disjoint : ∀ i ∈ (Finset.univ : Finset (Fin 32)), ∀ j ∈ (Finset.univ : Finset (Fin 32)), i ≠ j → Disjoint (rowSet i) (rowSet j) :=
  fun i _ j _ h => by rw [rowSet_eq, rowSet_eq]; exact Rect.part_disjoint hdiv h
omit [FloatOps F] in
theorem rows_cover : (Finset.univ : Finset (Fin 32)).biUnion rowSet = Finset.univ :=
  (Finset.biUnion_congr rfl fun i _ => rowSet_eq i).trans (Rect.biUnion_part hdiv)

omit [FloatOps F] in
theorem mPts_rows (d : Dev nD) (f : Buf (Elt F) (mLoc d)) :
    (mLoc d ↦{fullShare} f : sProp 𝕄) = bigSep Finset.univ fun w : Fin 32 => mRow d w f := by
  rw [← pointsTo_biUnion Finset.univ (ℓ := mLoc d) rowSet rows_disjoint, rows_cover]; try rfl
omit [FloatOps F] in
theorem iPts_rows (d : Dev nD) (f : Buf (Elt F) (iLoc d)) :
    (iLoc d ↦{fullShare} f : sProp 𝕄) = bigSep Finset.univ fun w : Fin 32 => iRow d w f := by
  rw [← pointsTo_biUnion Finset.univ (ℓ := iLoc d) rowSet rows_disjoint, rows_cover]; try rfl

/-- What the caller keeps of the scores while the workers read them. -/
abbrev kept (d : Dev nD) : sProp 𝕄 := tLoc d ↦{Transfers.shareDrop fullShare 32} xt d

theorem give (d : Dev nD) :
    iprop((tLoc d ↦{fullShare} xt d) ∗ (mLoc d ↦{fullShare} m₁ d) ∗ (iLoc d ↦{fullShare} m₂ d))
      ⊢ (iprop(kept xt d ∗ bigSep Finset.univ fun c : Fin ((K (F := F)).nCore 0) => (P xt m₁ m₂).st 0 d c) : sProp 𝕄) := by
  rw [show (bigSep Finset.univ fun c : Fin ((K (F := F)).nCore 0) => (P xt m₁ m₂).st 0 d c) = bigSep Finset.univ fun w => given xt m₁ m₂ d w from
      bigSep_workers (F := F) (fun w => given xt m₁ m₂ d w),
    bigSep_sep', bigSep_sep', mPts_rows, iPts_rows]
  iintro ⟨Ht, Hm, Hi⟩
  ihave H := (Transfers.pointsTo_toks_split (ℓ := tLoc d) (S := Finset.univ) (f := xt d) fullShare 32) $$ Ht
  icases H with ⟨Hd, Ht⟩
  isplitl [Hd]; · iexact Hd
  isplitl [Ht]; · iexact Ht
  isplitl [Hm]; · iexact Hm
  iexact Hi

theorem take (d : Dev nD) :
    iprop(kept xt d ∗ bigSep Finset.univ fun c : Fin ((K (F := F)).nCore 0) => (P xt m₁ m₂).dn 0 d c)
      ⊢ (iprop((tLoc d ↦{fullShare} xt d) ∗ (mLoc d ↦{fullShare} scM (xt d)) ∗ (iLoc d ↦{fullShare} scI (xt d))) : sProp 𝕄) := by
  rw [show (bigSep Finset.univ fun c : Fin ((K (F := F)).nCore 0) => (P xt m₁ m₂).dn 0 d c) = bigSep Finset.univ fun w => made xt d w from
      bigSep_workers (F := F) (fun w => made xt d w),
    bigSep_sep', bigSep_sep', mPts_rows, iPts_rows]
  iintro ⟨Hd, Ht, Hm, Hi⟩
  isplitl [Hd Ht]
  · iapply (Transfers.pointsTo_toks_join (ℓ := tLoc d) (S := Finset.univ) (f := xt d) fullShare 32)
    isplitl [Hd]; · iexact Hd
    iexact Ht
  isplitl [Hm]; · iexact Hm
  iexact Hi

end Cert.Proof.Sc

end
-- ==== Proof.Segs.lean ====
module

public import proofs.«01_k».proof.Proof.Region1
public import proofs.«01_k».proof.Proof.Region2
public import proofs.«01_k».proof.Proof.ScLaunch

/-! The two TensorCore calls as steps of @main: from the arrays held at a valuation to the arrays held at what the
    call leaves. -/

@[expose] public section

noncomputable section

namespace Cert.Proof.Tc

open Cert.KernelIdeal Cert.KernelIdeal.Gen
open Idealize.ShloMosaic
open Idealize.ShloMosaic.TcCoe
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (Dat BodyObligationLoose RegionSeg pin afterRegion ucRefs scopedRest)
open Idealize.ShloMosaic.StableHlo (held)
open Cert.Proof.Spec
open Cert.Proof.Sc (UP UU 𝒱₀)

variable {F : FTy → Type} [FloatOps F]

local notation "𝕄" => MT nD τ sig (HIx 1) (Elt F) ℕ UU ℕ

/-- No pipeline reads a table. -/
abbrev adm : (p : Fin 2) → (pcfgs (F := F) p).Adm := fun p => (cfgs p).toPCfg_adm

/-- The pipelines' rounds, in the second component of the certificate's own state. -/
def EP : Emb UP (MT nD τ sig (HIx 1) (Elt F) ℕ UU ℕ) := (Emb.inl : Emb UP (UP × Counters)).trans embR

instance EP_landsIn : (EP : Emb UP 𝕄).LandsIn (upEmb : UEmb _ 𝕄) := by unfold EP embR; infer_instance

variable (V₁ V₂ : Dev nD → Valuation τ sig (Elt F))

def dats : (p : Fin 2) → (c : Dev nD) → Dat τ (Elt F) (HIx 1) ℕ UU ℕ (pin (pcfgs (F := F)) adm p) c
  | 0 => dat1 V₁
  | 1 => dat2 V₂

/-- The levels the launch fixes. -/
abbrev Lk : GSem nD τ sig → Finset (HIx 1) := (Sc.K (F := F)).L
abbrev lvk : GSem nD τ sig → HIx 1 → ℕ := (Sc.K (F := F)).lev

theorem cut (p : Fin 2) : Pipeline.LevelCut (pcfgs (F := F)) adm (none : HIx 1) (Lk (F := F)) (lvk (F := F)) p (fun _ : Dev nD => 0) (fun _ => 0) where
  hι _ _ _ := Finset.mem_univ _
  hιb _ _ _ := le_refl 0
  hD _ _ _ h := absurd h (lt_irrefl _)

def seg1 : RegionSeg (pcfgs (F := F)) adm (dats V₁ V₂) (none : HIx 1) (defs₀ (F := F)) 𝒱₀ (Lk (F := F)) (lvk (F := F)) 0 :=
  RegionSeg.ofHeldIn (pcfgs (F := F)) adm (dats V₁ V₂) (none : HIx 1) (defs₀ (F := F)) 𝒱₀ (Lk (F := F)) (lvk (F := F)) 0 (fun _ => 0) (ucRefs τ sig)
    (fun _ => iprop(emp)) (fun _ => iprop(emp)) launch1.toP rfl (body_obligation1 V₁) (fun _ _ => rfl) (fun _ => rfl)
    (fun c w => match w with | ⟨0, _⟩ => rfl | ⟨1, _⟩ => rfl | ⟨2, _⟩ => rfl)
    (fun c => by
      show iprop(scopedRest spec1 c ∗ emp) ⊢ iprop(other1 c ∗ run1 V₁ c 0)
      rw [scopedRest1_eq]
      unfold run1 other1
      iintro ⟨⟨⟨%f0, H0⟩, ⟨%f1, H1⟩, Hr⟩, -⟩
      isplitl [Hr]; · iexact Hr
      iexists f0; iexists f1
      isplitr; · ipureintro; exact fun h => absurd rfl h
      rw [owns_whole_eq, owns_whole_eq]
      isplitl [H0]
      · iexists f0; isplitr; · ipureintro; rfl
        iexact H0
      · iexists f1; isplitr; · ipureintro; rfl
        iexact H1)
    (fun c => by
      show iprop(other1 c ∗ run1 V₁ c 13) ⊢ iprop(scopedRest spec1 c ∗ emp)
      rw [scopedRest1_eq]
      unfold run1 other1
      iintro ⟨Hr, ⟨%f0, %f1, -, H0, H1⟩⟩
      ihave K0 := (Entails.of_eq (owns_whole_eq (SparseCore.T c) cc1_scratch0 fullShare f0)) $$ H0
      ihave K1 := (Entails.of_eq (owns_whole_eq (SparseCore.T c) cc1_scratch1 fullShare f1)) $$ H1
      icases K0 with ⟨%g0, -, K0⟩
      icases K1 with ⟨%g1, -, K1⟩
      isplitl [Hr K0 K1]
      · isplitl [K0]; · iexists g0; iexact K0
        isplitl [K1]; · iexists g1; iexact K1
        iexact Hr
      · iempintro)
    (fun _ => 0) (cut 0) (fun _ => iprop(emp)) V₁ (fun c w => match w with | ⟨0, _⟩ => rfl | ⟨1, _⟩ => rfl | ⟨2, _⟩ => rfl)

def seg2 : RegionSeg (pcfgs (F := F)) adm (dats V₁ V₂) (none : HIx 1) (defs₀ (F := F)) 𝒱₀ (Lk (F := F)) (lvk (F := F)) 1 :=
  RegionSeg.ofHeldIn (pcfgs (F := F)) adm (dats V₁ V₂) (none : HIx 1) (defs₀ (F := F)) 𝒱₀ (Lk (F := F)) (lvk (F := F)) 1 (fun _ => 0) (ucRefs τ sig)
    (fun _ => iprop(emp)) (fun _ => iprop(emp)) launch2.toP rfl (body_obligation2 V₂) (fun _ _ => rfl) (fun _ => rfl)
    (fun c w => match w with | ⟨0, _⟩ => rfl | ⟨1, _⟩ => rfl | ⟨2, _⟩ => rfl | ⟨3, _⟩ => rfl | ⟨4, _⟩ => rfl | ⟨5, _⟩ => rfl)
    (fun c => by
      show iprop(scopedRest spec2 c ∗ emp) ⊢ scopedRest spec2 c
      iintro ⟨H, -⟩; iexact H)
    (fun c => by
      show scopedRest spec2 c ⊢ iprop(scopedRest spec2 c ∗ emp)
      iintro H
      isplitl [H]; · iexact H
      iempintro)
    (fun _ => 0) (cut 1) (fun _ => iprop(emp)) V₂
    (fun c w => match w with | ⟨0, _⟩ => rfl | ⟨1, _⟩ => rfl | ⟨2, _⟩ => rfl | ⟨3, _⟩ => rfl | ⟨4, _⟩ => rfl | ⟨5, _⟩ => rfl)

/-- What a call's step on device `c` starts from, and what it leaves. -/
abbrev at_ (c : Dev nD) (W : Valuation τ sig (Elt F)) : sProp 𝕄 :=
  iprop(held (c.tc : Thread nD τ) (ucRefs τ sig) W ∗ ∃ Wd, owes (c : Thread nD τ) (0 : CellTallies nD τ sig (HIx 1)) Wd)

theorem sub1 : Pipeline.arrRefs (τ := τ) (pcfgs (F := F) 0).spec ⊆ ucRefs τ sig :=
  Pipeline.arrRefs_sub_ucRefs (pcfgs (F := F) 0).spec fun w => match w with | ⟨0, _⟩ => rfl | ⟨1, _⟩ => rfl | ⟨2, _⟩ => rfl
theorem sub2 : Pipeline.arrRefs (τ := τ) (pcfgs (F := F) 1).spec ⊆ ucRefs τ sig :=
  Pipeline.arrRefs_sub_ucRefs (pcfgs (F := F) 1).spec fun w => match w with
    | ⟨0, _⟩ => rfl | ⟨1, _⟩ => rfl | ⟨2, _⟩ => rfl | ⟨3, _⟩ => rfl | ⟨4, _⟩ => rfl | ⟨5, _⟩ => rfl

theorem pre1 (c : Dev nD) : at_ c (V₁ c) ⊢ (seg1 V₁ V₂).pre c := by
  unfold seg1
  refine BI.Entails.trans ?_ (RegionSeg.ofHeldIn_pre sub1 c)
  change (_ : sProp 𝕄) ⊢ _
  iintro ⟨H, HO⟩
  isplitl [H]; · iexact H
  isplitl [HO]; · iexact HO
  isplitr <;> iempintro
theorem pre2 (c : Dev nD) : at_ c (V₂ c) ⊢ (seg2 V₁ V₂).pre c := by
  unfold seg2
  refine BI.Entails.trans ?_ (RegionSeg.ofHeldIn_pre sub2 c)
  change (_ : sProp 𝕄) ⊢ _
  iintro ⟨H, HO⟩
  isplitl [H]; · iexact H
  isplitl [HO]; · iexact HO
  isplitr <;> iempintro
theorem post1 (c : Dev nD) : (seg1 V₁ V₂).post c ⊢ at_ c (afterRegion (dat1 V₁ c) (V₁ c)) := by
  unfold seg1
  refine BI.Entails.trans (RegionSeg.ofHeldIn_post sub1 c) ?_
  change (_ : sProp 𝕄) ⊢ _
  iintro ⟨H, HO, -⟩
  isplitl [H]; · iexact H
  iexact HO
theorem post2 (c : Dev nD) : (seg2 V₁ V₂).post c ⊢ at_ c (afterRegion (dat2 V₂ c) (V₂ c)) := by
  unfold seg2
  refine BI.Entails.trans (RegionSeg.ofHeldIn_post sub2 c) ?_
  change (_ : sProp 𝕄) ⊢ _
  iintro ⟨H, HO, -⟩
  isplitl [H]; · iexact H
  iexact HO

/-- One pipeline's ghost state on device `c`. -/
abbrev ghost (p : Fin 2) (c : Dev nD) : sProp 𝕄 := iprop(Pipeline.cellsGhost cfgs EP p c ∗ Pipeline.toksInit cfgs EP p c)

theorem wp_region1 [∀ e, Nonempty (Elt F e)] (c : Dev nD) (Q : PUnit → sProp 𝕄) :
    iprop((iprop(boundary (c.tc : Thread nD τ) ∗ at_ c (afterRegion (dat1 V₁ c) (V₁ c))) -∗ Q ⟨⟩)
        ∗ boundary (c.tc : Thread nD τ) ∗ at_ c (V₁ c) ∗ levAts (Lk (F := F)) (lvk (F := F)) ∗ ghost 0 c)
      ⊢ wp frame (wpE (Sc.D (F := F)) Sc.𝒱 (c.tc : Thread nD τ) none) Set.univ (Prog.lift (.customCall (Pipeline.entry 0) ())) Q := by
  refine BI.Entails.trans ?_ (RegionSeg.wp (pcfgs (F := F)) adm (dats V₁ V₁) (none : HIx 1) cellOf_inj EP (defs₀ (F := F)) 𝒱₀ (Lk (F := F)) (lvk (F := F)) (seg1 V₁ V₁) c none
    (fun _ h => nomatch h) _ Q)
  change (_ : sProp 𝕄) ⊢ _
  iintro ⟨Hk, Hb, Hat, Hl, Hg, Ht⟩
  isplitl [Hk]
  · iintro ⟨Hb, Hp⟩
    rw [wp_ret]; imodintro
    iapply Hk
    isplitl [Hb]; · iexact Hb
    iapply (post1 V₁ V₁ c); iexact Hp
  isplitl [Hb]; · iexact Hb
  isplitl [Hat]; · iapply (pre1 V₁ V₁ c); iexact Hat
  isplitl [Hl]; · iexact Hl
  isplitl [Hg]; · iexact Hg
  iexact Ht

theorem wp_region2 [∀ e, Nonempty (Elt F e)] (c : Dev nD) (Q : PUnit → sProp 𝕄) :
    iprop((iprop(boundary (c.tc : Thread nD τ) ∗ at_ c (afterRegion (dat2 V₂ c) (V₂ c))) -∗ Q ⟨⟩)
        ∗ boundary (c.tc : Thread nD τ) ∗ at_ c (V₂ c) ∗ levAts (Lk (F := F)) (lvk (F := F)) ∗ ghost 1 c)
      ⊢ wp frame (wpE (Sc.D (F := F)) Sc.𝒱 (c.tc : Thread nD τ) none) Set.univ (Prog.lift (.customCall (Pipeline.entry 1) ())) Q := by
  refine BI.Entails.trans ?_ (RegionSeg.wp (pcfgs (F := F)) adm (dats V₂ V₂) (none : HIx 1) cellOf_inj EP (defs₀ (F := F)) 𝒱₀ (Lk (F := F)) (lvk (F := F)) (seg2 V₂ V₂) c none
    (fun _ h => nomatch h) _ Q)
  change (_ : sProp 𝕄) ⊢ _
  iintro ⟨Hk, Hb, Hat, Hl, Hg, Ht⟩
  isplitl [Hk]
  · iintro ⟨Hb, Hp⟩
    rw [wp_ret]; imodintro
    iapply Hk
    isplitl [Hb]; · iexact Hb
    iapply (post2 V₂ V₂ c); iexact Hp
  isplitl [Hb]; · iexact Hb
  isplitl [Hat]; · iapply (pre2 V₂ V₂ c); iexact Hat
  isplitl [Hl]; · iexact Hl
  isplitl [Hg]; · iexact Hg
  iexact Ht

end Cert.Proof.Tc

end
-- ==== Proof.Run.lean ====
module

public import proofs.«01_k».proof.Proof.Segs

/-! The kernel's whole run: @main on the TensorCore, its launch state, and the result every device ends with. -/

@[expose] public section

noncomputable section

namespace Cert.Proof.Run

open Cert.KernelIdeal Cert.KernelIdeal.Gen
open Idealize.ShloMosaic
open Idealize.ShloMosaic.TcCoe
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (afterRegion ucRefs)
open Idealize.ShloMosaic.StableHlo (held)
open Cert.Proof.Spec Cert.Proof.Tc
open Cert.Proof.Sc (UH UP UU 𝒱₀ K D 𝒱 v₀ EH P tLoc mLoc iLoc kept)

variable {F : FTy → Type} [FloatOps F]

local notation "𝕄" => MT nD τ sig (HIx 1) (Elt F) ℕ UU ℕ

variable (m : (ℓ : Loc nD τ sig) → Buf (Elt F) ℓ) (ρ : Dev nD → PrngReg)

/-! ## The arrays' contents between the steps -/

abbrev opT : HloOp τ sig (Elt F) :=
  StableHlo.unary main_arg0 main_v0 ((transpose S100000x128 [1, 0] · transposes_S128x100000_S100000x128_1_0) : (⟨S128x100000, .f32⟩ : BufTy).Contents (Elt F) → (⟨S100000x128, .f32⟩ : BufTy).Contents (Elt F))

/-- The scores, classes first. -/
def xT (d : Dev nD) : Buf (Elt F) (tLoc d) :=
  transpose S100000x128 [1, 0] (m ((SparseCore.T d).loc main_arg0)) transposes_S128x100000_S100000x128_1_0

def V0 (d : Dev nD) : Valuation τ sig (Elt F) := fun b => m (d, b)
def V1 (d : Dev nD) : Valuation τ sig (Elt F) := (opT (F := F)).result (V0 m d)
def V2 (d : Dev nD) : Valuation τ sig (Elt F) :=
  Function.update (Function.update (V1 m d) (dref main_v1_0) (scM (xT m d))) (dref main_v1_1) (scI (xT m d))
def V3 (d : Dev nD) : Valuation τ sig (Elt F) := afterRegion (dat1 (V2 m) d) (V2 m d)
def V4 (d : Dev nD) : Valuation τ sig (Elt F) := afterRegion (dat2 (V3 m) d) (V3 m d)

/-- What the program returns. -/
def result (d : Dev nD) : FVec F S1 .f32 :=
  finOut (scM (xT m d)) (scI (xT m d)) (finM (xT m d)) (finI (xT m d)) (m ((SparseCore.T d).loc main_arg1))

theorem V1_v0 (d : Dev nD) : V1 m d (dref main_v0) = xT m d :=
  StableHlo.unary_result main_arg0 main_v0 _ _ _ (V0 m d)
theorem V1_ne (d : Dev nD) (b : Ref sig .tc) (h : b ≠ main_v0) : V1 m d (dref b) = m ((SparseCore.T d).loc b) :=
  StableHlo.unary_result_ne _ _ _ _ _ (V0 m d) h
theorem V2_v1_0 (d : Dev nD) : V2 m d (dref main_v1_0) = scM (xT m d) :=
  (Function.update_of_ne (show dref main_v1_0 ≠ dref main_v1_1 by decide) _ _).trans (Function.update_self _ _ _)
theorem V2_v1_1 (d : Dev nD) : V2 m d (dref main_v1_1) = scI (xT m d) := Function.update_self _ _ _
theorem V2_ne (d : Dev nD) (b : DevRef τ sig) (h0 : b ≠ dref main_v1_0) (h1 : b ≠ dref main_v1_1) : V2 m d b = V1 m d b :=
  (Function.update_of_ne h1 _ _).trans (Function.update_of_ne h0 _ _)
theorem V2_v0 (d : Dev nD) : V2 m d (dref main_v0) = xT m d :=
  (V2_ne m d _ (by decide) (by decide)).trans (V1_v0 m d)

theorem V3_v2_0 (d : Dev nD) : V3 m d (dref main_v2_0) = finM (xT m d) := by
  have h := Pipeline.afterRegion_arr (dat1 (V2 m) d) (V2 m d) winFacts1.arr_inj (1 : Fin 3)
  refine h.trans ((arr1_1 (V2 m) d).trans ?_)
  rw [show xOf (V2 m) d = xT m d from V2_v0 m d]
theorem V3_v2_1 (d : Dev nD) : V3 m d (dref main_v2_1) = finI (xT m d) := by
  have h := Pipeline.afterRegion_arr (dat1 (V2 m) d) (V2 m d) winFacts1.arr_inj (2 : Fin 3)
  refine h.trans ((arr1_2 (V2 m) d).trans ?_)
  rw [show xOf (V2 m) d = xT m d from V2_v0 m d]
theorem V3_keeps (d : Dev nD) (b : Ref sig .tc) (h : ∀ w : Fin 3, Pipeline.arrRef spec1 w = b → (cfg1.win w).isOut = false) : V3 m d (dref b) = V2 m d (dref b) :=
  Pipeline.afterRegion_keeps (dat1 (V2 m) d) (V2 m d) winFacts1.arr_inj
    (fun w => match w with | ⟨0, _⟩ => rfl | ⟨1, _⟩ => rfl | ⟨2, _⟩ => rfl) b h
theorem V4_keeps (d : Dev nD) (b : Ref sig .tc) (h : ∀ w : Fin 6, Pipeline.arrRef spec2 w = b → (cfg2.win w).isOut = false) : V4 m d (dref b) = V3 m d (dref b) :=
  Pipeline.afterRegion_keeps (dat2 (V3 m) d) (V3 m d) winFacts2.arr_inj
    (fun w => match w with | ⟨0, _⟩ => rfl | ⟨1, _⟩ => rfl | ⟨2, _⟩ => rfl | ⟨3, _⟩ => rfl | ⟨4, _⟩ => rfl | ⟨5, _⟩ => rfl) b h

theorem V4_arg0 (d : Dev nD) : V4 m d (dref main_arg0) = m ((SparseCore.T d).loc main_arg0) := by
  rw [V4_keeps m d main_arg0 (by decide), V3_keeps m d main_arg0 (by decide), V2_ne m d _ (by decide) (by decide), V1_ne m d main_arg0 (by decide)]
theorem V3_arg1 (d : Dev nD) : V3 m d (dref main_arg1) = m ((SparseCore.T d).loc main_arg1) := by
  rw [V3_keeps m d main_arg1 (by decide), V2_ne m d _ (by decide) (by decide), V1_ne m d main_arg1 (by decide)]
theorem V4_arg1 (d : Dev nD) : V4 m d (dref main_arg1) = m ((SparseCore.T d).loc main_arg1) := by
  rw [V4_keeps m d main_arg1 (by decide), V3_arg1]
theorem V4_v3 (d : Dev nD) : V4 m d (dref main_v3) = result m d := by
  have h := Pipeline.afterRegion_arr (dat2 (V3 m) d) (V3 m d) winFacts2.arr_inj (5 : Fin 6)
  refine h.trans ((arr2_5 (V3 m) d).trans ?_)
  unfold outOf
  rw [V3_v2_0, V3_v2_1, V3_arg1, V3_keeps m d main_v1_0 (by decide), V3_keeps m d main_v1_1 (by decide), V2_v1_0, V2_v1_1]
  rfl

/-! ## What the run takes out of the held arrays -/

abbrev Ssc : Finset (DevRef τ sig) := {dref main_v0, dref main_v1_0, dref main_v1_1}
abbrev Sfin : Finset (DevRef τ sig) := {dref main_arg0, dref main_arg1, dref main_v3}

omit [FloatOps F] in
theorem held_Ssc (d : Dev nD) (W : Valuation τ sig (Elt F)) :
    (held (T d) Ssc W : sProp 𝕄) = iprop((tLoc d ↦{fullShare} W (dref main_v0)) ∗ (mLoc d ↦{fullShare} W (dref main_v1_0)) ∗ (iLoc d ↦{fullShare} W (dref main_v1_1))) := by
  unfold held Ssc
  rw [SparseCore.bigSep_insert' (by decide), SparseCore.bigSep_insert' (by decide), bigSep_singleton]
omit [FloatOps F] in
theorem held_Sfin (d : Dev nD) (W : Valuation τ sig (Elt F)) :
    (held (T d) Sfin W : sProp 𝕄) = iprop(((SparseCore.T d).loc main_arg0 ↦{fullShare} W (dref main_arg0)) ∗ ((SparseCore.T d).loc main_arg1 ↦{fullShare} W (dref main_arg1))
      ∗ ((SparseCore.T d).loc main_v3 ↦{fullShare} W (dref main_v3))) := by
  unfold held Sfin
  rw [SparseCore.bigSep_insert' (by decide), SparseCore.bigSep_insert' (by decide), bigSep_singleton]

theorem mem_uc (b : Ref sig .tc) (h : b.isScoped = false) : dref b ∈ ucRefs τ sig :=
  Finset.mem_filter.mpr ⟨StableHlo.devRef_mem_tcRefs _, fun h' => Bool.false_ne_true (h.symm.trans h')⟩
theorem Ssc_sub : Ssc ⊆ ucRefs τ sig := fun b hb => by
  simp only [Ssc, Finset.mem_insert, Finset.mem_singleton] at hb
  rcases hb with rfl | rfl | rfl <;> exact mem_uc _ rfl
theorem Sfin_sub : Sfin ⊆ ucRefs τ sig := fun b hb => by
  simp only [Sfin, Finset.mem_insert, Finset.mem_singleton] at hb
  rcases hb with rfl | rfl | rfl <;> exact mem_uc _ rfl

/-- The arrays at launch. -/
theorem unscoped_held (d : Dev nD) : (unscopedBufs d (fun b => m ((SparseCore.T d).loc b)) : sProp 𝕄) = held (T d) (ucRefs τ sig) (V0 m d) :=
  Pipeline.unscopedBufs_held d (V0 m d)

/-- Before the SparseCore call: what it takes, and the rest. -/
theorem held_V1 (d : Dev nD) : (held (T d) (ucRefs τ sig) (V1 m d) : sProp 𝕄)
    = iprop(((tLoc d ↦{fullShare} xT m d) ∗ (mLoc d ↦{fullShare} m (mLoc d)) ∗ (iLoc d ↦{fullShare} m (iLoc d))) ∗ held (T d) (ucRefs τ sig \ Ssc) (V1 m d)) := by
  rw [StableHlo.held_sub_split (T d) Ssc_sub, held_Ssc, V1_v0, V1_ne m d main_v1_0 (by decide), V1_ne m d main_v1_1 (by decide)]
/-- After it. -/
theorem held_V2 (d : Dev nD) : (held (T d) (ucRefs τ sig) (V2 m d) : sProp 𝕄)
    = iprop(((tLoc d ↦{fullShare} xT m d) ∗ (mLoc d ↦{fullShare} scM (xT m d)) ∗ (iLoc d ↦{fullShare} scI (xT m d))) ∗ held (T d) (ucRefs τ sig \ Ssc) (V1 m d)) := by
  rw [StableHlo.held_sub_split (T d) Ssc_sub, held_Ssc, V2_v0, V2_v1_0, V2_v1_1,
    StableHlo.held_congr (T d) (S := ucRefs τ sig \ Ssc) (V := V2 m d) (V' := V1 m d) fun b hb => ?_]
  have hb' := (Finset.mem_sdiff.mp hb).2
  simp only [Ssc, Finset.mem_insert, Finset.mem_singleton, not_or] at hb'
  exact V2_ne m d b hb'.2.1 hb'.2.2

/-- What @main leaves the claims: its arguments as at launch, and the result. -/
abbrev FIN (d : Dev nD) : sProp 𝕄 :=
  iprop(((SparseCore.T d).loc main_arg0 ↦{fullShare} m ((SparseCore.T d).loc main_arg0)) ∗ ((SparseCore.T d).loc main_arg1 ↦{fullShare} m ((SparseCore.T d).loc main_arg1))
    ∗ ((SparseCore.T d).loc main_v3 ↦{fullShare} result m d))

theorem held_V4 (d : Dev nD) : (held (T d) (ucRefs τ sig) (V4 m d) : sProp 𝕄) = iprop(FIN m d ∗ held (T d) (ucRefs τ sig \ Sfin) (V4 m d)) := by
  rw [StableHlo.held_sub_split (T d) Sfin_sub, held_Sfin, V4_arg0, V4_arg1, V4_v3]

/-! ## @main -/

abbrev Pm : (K (F := F)).Pay (nD := nD) (Val := Elt F) (Name := ℕ) (U := UU) := P (xT m) (fun d => m (mLoc d)) (fun d => m (iLoc d))

/-- The two pipelines' ghost state on one device. -/
abbrev G (d : Dev nD) : sProp 𝕄 :=
  iprop((Pipeline.cellsGhost cfgs EP 0 d ∗ Pipeline.cellsGhost cfgs EP 1 d) ∗ (Pipeline.toksInit cfgs EP 0 d ∗ Pipeline.toksInit cfgs EP 1 d))

theorem wp_call1 [∀ e, Nonempty (Elt F e)] (d : Dev nD) (W : Dev nD → Valuation τ sig (Elt F)) (Q : PUnit → sProp 𝕄) :
    iprop((iprop(boundary (T d) ∗ at_ d (afterRegion (dat1 W d) (W d))) -∗ Q ⟨⟩)
        ∗ boundary (T d) ∗ at_ d (W d) ∗ levAts (Lk (F := F)) (lvk (F := F)) ∗ ghost 0 d)
      ⊢ wp frame (wpE ((K (F := F)).defs (D (F := F))) 𝒱 (T d) none) Set.univ (Prog.lift (.customCall (SparseCore.inner (Pipeline.entry 0)) ())) Q :=
  (wp_region1 W d Q).trans ((K (F := F)).wp_liftProg (D (F := F)) 𝒱 (T d) Set.univ none (Prog.lift (.customCall (Pipeline.entry 0) ())) Q)
theorem wp_call2 [∀ e, Nonempty (Elt F e)] (d : Dev nD) (W : Dev nD → Valuation τ sig (Elt F)) (Q : PUnit → sProp 𝕄) :
    iprop((iprop(boundary (T d) ∗ at_ d (afterRegion (dat2 W d) (W d))) -∗ Q ⟨⟩)
        ∗ boundary (T d) ∗ at_ d (W d) ∗ levAts (Lk (F := F)) (lvk (F := F)) ∗ ghost 1 d)
      ⊢ wp frame (wpE ((K (F := F)).defs (D (F := F))) 𝒱 (T d) none) Set.univ (Prog.lift (.customCall (SparseCore.inner (Pipeline.entry 1)) ())) Q :=
  (wp_region2 W d Q).trans ((K (F := F)).wp_liftProg (D (F := F)) 𝒱 (T d) Set.univ none (Prog.lift (.customCall (Pipeline.entry 1) ())) Q)

theorem hT : (opT (F := F)).bufs ⊆ ucRefs τ sig := Pipeline.sub_ucRefs _ (StableHlo.unary_bufs_sub _ _ _ _ _)

/-- Once the one SparseCore call is over, every wait recorded on the TensorCore sits below the next call's levels. -/
theorem below (d : Dev nD) (W : Waits sig (HIx 1)) : (K (F := F)).WBelow (T d) W (8 * 1) := by
  intro p _
  rcases p.2 with _ | q
  · exact Nat.zero_le _
  · have h := (K (F := F)).lev_some_le (T d, p.1) q
    have hq : q.val = 0 := by omega
    show _ ≤ 8 * 1
    omega

theorem hmain [∀ e, Nonempty (Elt F e)] (κ : GSem nD τ sig → ℕ) (d : Dev nD) :
    iprop((K (F := F)).ctx EH (Pm m) κ ∗ (K (F := F)).tcSt EH d 0 ∗ (K (F := F)).tcRes m ρ d ∗ G d)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscoped_held]
  simp only [main, wp_bind, wp_pure]
  iintro ⟨#Hctx, Hst, ⟨Hb, Hheld, Hts, -⟩, ⟨⟨Hc0, Hc1⟩, ⟨Ht0, Ht1⟩⟩⟩
  ihave #Hlev := (SparseCore.Cfg.ctx_levAts κ) $$ Hctx
  iapply (StableHlo.wp_hlo_within 𝒱 (SparseCore.T d) none Set.univ (op := opT) (S := ucRefs τ sig) hT (V := V0 m d)) $$ [Hb Hheld]
  · isplitl [Hb]; · iexact Hb
    iexact Hheld
  iintro ⟨Hb, Hheld⟩
  rw [wp_ret]; imodintro
  ihave Hh := (show (held (T d) (ucRefs τ sig) ((opT (F := F)).result (V0 m d)) : sProp 𝕄) ⊢ _ from Entails.of_eq (held_V1 m d)) $$ Hheld
  icases Hh with ⟨Hsc, Hrest⟩
  ihave Hsc := (Sc.give (xT m) (fun d => m (mLoc d)) (fun d => m (iLoc d)) d) $$ Hsc
  icases Hsc with ⟨Hkept, Hsc⟩
  iapply ((K (F := F)).wp_run (D (F := F)) 𝒱 (EH := EH) (P := Pm m) κ d 0) $$ [Hst Hsc Hkept Hrest Hb Hts Hc0 Hc1 Ht0 Ht1]
  isplitr; · iexact Hctx
  isplitl [Hst]; · iexact Hst
  isplitl [Hsc]; · iexact Hsc
  iintro ⟨Hst, Hdn⟩
  ihave Hsc := (Sc.take (xT m) (fun d => m (mLoc d)) (fun d => m (iLoc d)) d) $$ [Hkept Hdn]
  · isplitl [Hkept]; · iexact Hkept
    iexact Hdn
  ihave Hheld := (Entails.of_eq (held_V2 m d).symm) $$ [Hsc Hrest]
  · isplitl [Hsc]; · iexact Hsc
    iexact Hrest
  unfold SparseCore.Cfg.tcSt
  icases Hst with ⟨⟨%W, -, HO⟩, Hst⟩
  rw [show (K (F := F)).Otc (N := 1) d ((0 : Fin 1).val + 1) = 0 from (K (F := F)).Otc_end d (le_refl 1)]
  iapply (wp_call1 d (V2 m) _)
  isplitr [Hb Hheld HO Hc0 Ht0]
  rotate_left
  · isplitl [Hb]; · iexact Hb
    isplitl [Hheld HO]
    · isplitl [Hheld]; · iexact Hheld
      iexists W; iexact HO
    isplitr; · iexact Hlev
    isplitl [Hc0] <;> iassumption
  iintro ⟨Hb, Hheld, HO⟩
  iapply (wp_call2 d (V3 m) _)
  isplitr [Hb Hheld HO Hc1 Ht1]
  rotate_left
  · isplitl [Hb]; · iexact Hb
    isplitl [Hheld HO]
    · isplitl [Hheld]; · iexact Hheld
      iexact HO
    isplitr; · iexact Hlev
    isplitl [Hc1] <;> iassumption
  iintro ⟨Hb, Hheld, ⟨%W', HO⟩⟩
  ihave Hh := (show (held (T d) (ucRefs τ sig) (afterRegion (dat2 (V3 m) d) (V3 m d)) : sProp 𝕄) ⊢ _ from Entails.of_eq (held_V4 m d)) $$ Hheld
  icases Hh with ⟨Hfin, -⟩
  imodintro
  isplitl [Hst HO]
  · isplitl [HO]
    · iexists W'
      isplitr; · ipureintro; exact below d W'
      rw [show (K (F := F)).Otc (N := 1) d 1 = 0 from (K (F := F)).Otc_end d (le_refl 1)]
      iexact HO
    iexact Hst
  isplitl [Hfin]; · iexact Hfin
  isplitl [Hb] <;> iassumption

/-! ## The launch element -/

def u₀ : UU := (initOf (K (F := F)).hsCells (K (F := F)).hsToks, (initOf (Pipeline.cells cfgs cellOf_inj) (Pipeline.launchToks cfgs cellOf_inj), 1))

omit [FloatOps F] in
theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun d : Dev nD => G d)
        ∗ bigSep Finset.univ fun thr : Thread nD τ => bigSep Finset.univ fun q : Fin 1 => (Pm m).x q thr) := by
  unfold u₀
  iintro Hu
  ihave H := (ownU_pair (initOf (K (F := F)).hsCells (K (F := F)).hsToks) ((initOf (Pipeline.cells cfgs cellOf_inj) (Pipeline.launchToks cfgs cellOf_inj), 1) : UP × Counters)) $$ Hu
  icases H with ⟨HH, HP⟩
  ihave HP := (show (BI.own (embR ((initOf (Pipeline.cells cfgs cellOf_inj) (Pipeline.launchToks cfgs cellOf_inj), 1) : UP × Counters)) : sProp 𝕄)
    ⊢ BI.own (EP (initOf (Pipeline.cells cfgs cellOf_inj) (Pipeline.launchToks cfgs cellOf_inj))) from BI.Entails.refl _) $$ HP
  imod (Pipeline.fund_ghost cfgs EP cellOf_inj) $$ HP with ⟨Hc, Ht⟩
  imodintro
  isplitl [HH]; · iexact HH
  isplitl [Hc Ht]
  · rw [show (bigSep Finset.univ fun d : Dev nD => G (F := F) d)
        = iprop((bigSep Finset.univ fun c : Dev nD => bigSep Finset.univ fun p : Fin 2 => Pipeline.cellsGhost cfgs EP p c)
          ∗ bigSep Finset.univ fun c : Dev nD => bigSep Finset.univ fun p : Fin 2 => Pipeline.toksInit cfgs EP p c) from by
      rw [← bigSep_sep']
      refine bigSep_congr fun d _ => ?_
      rw [BI.bigSep_fin_two, BI.bigSep_fin_two]
      rfl]
    isplitl [Hc] <;> iassumption
  rw [show (bigSep Finset.univ fun thr : Thread nD τ => bigSep Finset.univ fun q : Fin 1 => (Pm (F := F) m).x q thr) = bigSep Finset.univ fun _ => iprop(emp) from
    bigSep_congr fun _ _ => bigSep_univ_of_subsingleton (0 : Fin 1), bigSep_emp']
  iempintro

/-! ## The run -/

def fq (d : Dev nD) (s' : Phys nD τ sig (Elt F)) : Prop :=
  s'.mem.mem ((SparseCore.T d).loc main_arg0) = m ((SparseCore.T d).loc main_arg0) ∧ s'.mem.mem ((SparseCore.T d).loc main_arg1) = m ((SparseCore.T d).loc main_arg1)
    ∧ s'.mem.mem ((SparseCore.T d).loc main_v3) = result m d

theorem hfin (d : Dev nD) (s' : Phys nD τ sig (Elt F)) : iprop(FIN m d ∗ SI s') ⊢ (⌜fq m d s'⌝ : sProp 𝕄) := by
  iintro ⟨⟨H0, H1, H3⟩, HSI⟩
  ihave H := (persistent_entails_right (SI_pointsTo_agree (st := s') (ℓ := (SparseCore.T d).loc main_arg0) (I := Finset.univ) (q := fullShare) (f := m ((SparseCore.T d).loc main_arg0)))) $$ [HSI H0]
  · isplitl [HSI] <;> iassumption
  icases H with ⟨%h0, HSI, -⟩
  ihave H := (persistent_entails_right (SI_pointsTo_agree (st := s') (ℓ := (SparseCore.T d).loc main_arg1) (I := Finset.univ) (q := fullShare) (f := m ((SparseCore.T d).loc main_arg1)))) $$ [HSI H1]
  · isplitl [HSI] <;> iassumption
  icases H with ⟨%h1, HSI, -⟩
  ihave H := (SI_pointsTo_agree (st := s') (ℓ := (SparseCore.T d).loc main_v3) (I := Finset.univ) (q := fullShare) (f := result m d)) $$ [HSI H3]
  · isplitl [HSI] <;> iassumption
  icases H with %h3
  ipureintro
  exact ⟨funext fun i => h0 i (Finset.mem_univ i), funext fun i => h1 i (Finset.mem_univ i), funext fun i => h3 i (Finset.mem_univ i)⟩

def QC : PUnit × MemSt nD τ sig (Elt F) → Prop := fun r =>
  (∀ c : Dev nD, r.2.mem ((SparseCore.T c).loc main_arg0) = m ((SparseCore.T c).loc main_arg0) ∧ r.2.mem ((SparseCore.T c).loc main_arg1) = m ((SparseCore.T c).loc main_arg1)
    ∧ r.2.mem ((SparseCore.T c).loc main_v3) = result m c) ∧ r.2.sem = fun _ => 0

theorem run_main [∀ e, Nonempty (Elt F e)] : θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := Pm m) (A := ∅) Sc.facts v₀
    (fun q hq => match q with | 0 => nomatch hq)
    (fun q _ => match q with | 0 => Sc.tileObl (xT m) _ _ Sc.facts)
    (fun q _ => match q with | 0 => SparseCore.Cfg.VecSplit.of_plain (Sc.vecSplit (xT m) _ _))
    m ρ main G (FIN m) (u₀ (F := F)) (sep_elim_left.trans (hu₀ m)) (hmain m ρ) (fq m) (hfin m) (QC m) (fun _ h hz => ⟨h, hz⟩)

end Cert.Proof.Run

end
-- ==== Proof.Frames.lean ====
module

public import proofs.«01_k».proof.Proof.Run
public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import Idealize.ShloMosaic.Lib.Quiescent

/-! The frames. The two readings of the kernel are one program, piece by piece, so both frames are read off the one run. -/

@[expose] public section

noncomputable section

namespace Cert.Proof.Frames

open Idealize.ShloMosaic Idealize.SL.Sem

attribute [local instance] Cert.Kernel.Gen.facts Cert.KernelIdeal.Gen.facts Cert.ReferenceIdeal.Gen.facts

variable {F : FTy → Type} [FloatOps F]

/-! ### One program -/

theorem finalize_eq : Cert.Kernel.cc2__finalize_body (F := F) = Cert.KernelIdeal.cc2__finalize_body (F := F) := rfl
theorem sc_body_eq : Cert.Kernel.cc0__sc_body (F := F) = Cert.KernelIdeal.cc0__sc_body (F := F) := rfl
set_option maxHeartbeats 8000000 in
theorem tc_rowmax_eq : Cert.Kernel.cc1__tc_rowmax_body (F := F) = Cert.KernelIdeal.cc1__tc_rowmax_body (F := F) := rfl

theorem defs₀_eq : Cert.Kernel.defs₀ (F := F) = Cert.KernelIdeal.defs₀ (F := F) := by
  funext p l a
  cases p with
  | tc =>
    match l, a with
    | 0, a => rfl
    | 1, a =>
      unfold Cert.Kernel.defs₀ Cert.KernelIdeal.defs₀
      dsimp only
      rw [tc_rowmax_eq]
      rfl
    | 2, a =>
      unfold Cert.Kernel.defs₀ Cert.KernelIdeal.defs₀
      dsimp only
      rw [finalize_eq]
      rfl
  | scScalar c => match l, a with
    | 0, a => rfl
    | 1, a => rfl
    | 2, a => rfl
  | scVector c s => match l, a with
    | 0, a =>
      unfold Cert.Kernel.defs₀ Cert.KernelIdeal.defs₀
      dsimp only
      rw [sc_body_eq]
      rfl
    | 1, a => rfl
    | 2, a => rfl

theorem defs_eq : Cert.Kernel.defs (F := F) = Cert.KernelIdeal.defs (F := F) := by
  unfold Cert.Kernel.defs Cert.KernelIdeal.defs
  rw [defs₀_eq]
  rfl

/-! ### The frames -/

theorem frame_ideal : Cert.quiescent_KernelIdeal := fun m ρ _ =>
  (θ_run Cert.KernelIdeal.defs _ _).mono (fun _ h => ⟨fun c => ⟨(h.1 c).1, (h.1 c).2.1⟩, h.2⟩) (Run.run_main (F := Ideal) m ρ)

theorem frame_kernel : Cert.quiescent_Kernel := by
  intro m ρ _
  rw [defs_eq]
  exact (θ_run Cert.KernelIdeal.defs _ _).mono (fun _ h => ⟨fun c => ⟨(h.1 c).1, (h.1 c).2.1⟩, h.2⟩) (Run.run_main (F := Bits) m ρ)

theorem frame_reference : Cert.quiescent_ReferenceIdeal := by
  intro m ρ _
  exact (θ_run Cert.ReferenceIdeal.defs _ _).mono
    (fun r h => ⟨fun c => (h c).2, Idealize.ShloMosaic.sem_eq_zero_of_no_sems (by decide) r.2⟩) (Cert.ReferenceIdeal.Value.run (F := Ideal) m ρ)

end Cert.Proof.Frames

end
-- ==== Proof.Best.lean ====
module

public import proofs.«01_k».proof.Proof.TcWp
public import Idealize.ShloMosaic.PureOps.Ideal
public import Idealize.ShloMosaic.PureOps.Ideal.Laws
public import Idealize.ShloMosaic.PureOps.Reduce

/-! The first position of a maximum, over the extended reals: what a running maximum with its label keeps, how the
    results of parts are put together, and what a stable sort puts first. -/

@[expose] public section

noncomputable section

namespace Cert.Proof.Best

open Idealize.ShloMosaic
open Cert.Proof.Spec Cert.Proof.Tc

/-- `i` is the first of `0 … N-1` at which `f` is greatest. -/
def Best (f : Nat → EReal) (N i : Nat) : Prop := i < N ∧ (∀ n < N, f n ≤ f i) ∧ ∀ n < i, f n < f i

theorem Best.unique {f : Nat → EReal} {N i j : Nat} (hi : Best f N i) (hj : Best f N j) : i = j := by
  rcases Nat.lt_trichotomy i j with h | h | h
  · exact absurd (hj.2.2 i h) (not_lt.2 (hi.2.1 j hj.1))
  · exact h
  · exact absurd (hi.2.2 j h) (not_lt.2 (hj.2.1 i hi.1))

/-! ### Running maxima -/

theorem negInf : (Scalar.ofBits .f32 0xFF800000#32 : Ideal .f32) = (⊥ : EReal) := by
  show Ideal.ofBits .f32 0xFF800000#32 = ⊥
  simp [Ideal.ofBits, Ideal.ieee]

theorem select_ogt {α : Type} (a b : EReal) (p q : α) :
    Scalar.select (FloatOps.cmpf (F := Ideal) (φ := .f32) .ogt a b) p q = if b < a then p else q := by
  show (if Ideal.cmp .ogt a b = 1 then p else q) = _
  by_cases h : b < a <;> simp [Ideal.cmp, h]

theorem select_oeq {α : Type} (a b : EReal) (p q : α) :
    Scalar.select (FloatOps.cmpf (F := Ideal) (φ := .f32) .oeq a b) p q = if a = b then p else q := by
  show (if Ideal.cmp .oeq a b = 1 then p else q) = _
  by_cases h : a = b <;> simp [Ideal.cmp, h]

/-- The running maximum bounds what it has seen; unless still at minus infinity it is reached, and labelled where it
    was reached first. -/
theorem scan_spec (f : Nat → EReal) (x : Nat → BitVec 32) (n : Nat) :
    (∀ r < n, f r ≤ (scan (F := Ideal) f x n).1) ∧
      (((scan (F := Ideal) f x n).1 = (⊥ : EReal) ∧ (scan (F := Ideal) f x n).2 = 0#32) ∨
        ∃ r < n, (⊥ : EReal) < f r ∧ (scan (F := Ideal) f x n).1 = f r ∧ (scan (F := Ideal) f x n).2 = x r ∧ ∀ r' < r, f r' < f r) := by
  induction n with
  | zero => exact ⟨fun r h => absurd h (Nat.not_lt_zero r), .inl ⟨negInf, rfl⟩⟩
  | succ n ih =>
    simp only [Spec.scan, select_ogt]
    by_cases h : (scan (F := Ideal) f x n).1 < f n
    · rw [if_pos h, if_pos h]
      refine ⟨fun r hr => ?_, .inr ⟨n, Nat.lt_succ_self n, lt_of_le_of_lt bot_le h, rfl, rfl, fun r' hr' => lt_of_le_of_lt (ih.1 r' hr') h⟩⟩
      rcases Nat.lt_succ_iff_lt_or_eq.1 hr with h1 | h1
      · exact le_of_lt (lt_of_le_of_lt (ih.1 r h1) h)
      · rw [h1]
    · rw [if_neg h, if_neg h]
      refine ⟨fun r hr => ?_, ih.2.imp_right fun ⟨r, hr, hh⟩ => ⟨r, Nat.lt_succ_of_lt hr, hh⟩⟩
      rcases Nat.lt_succ_iff_lt_or_eq.1 hr with h1 | h1
      · exact ih.1 r h1
      · rw [h1]; exact not_lt.1 h

/-- The TensorCore's fold is the same running maximum, labelled by the step. -/
theorem fmax_eq (f : Nat → EReal) (n : Nat) : fmax (F := Ideal) f n = scan (F := Ideal) f (fun n => BitVec.ofNat 32 n) n := by
  induction n with
  | zero => rfl
  | succ n ih =>
    simp only [fmax, Spec.scan, ih, select_ogt]
    refine Prod.ext ?_ rfl
    show max _ _ = _
    by_cases h : (scan (F := Ideal) f (fun n => BitVec.ofNat 32 n) n).1 < f n
    · rw [if_pos h]; exact max_eq_right (le_of_lt h)
    · rw [if_neg h]; exact max_eq_left (not_lt.1 h)

/-! ### Parts -/

/-- `v` is the greatest of `f` over the classes `S` and `l` the first class reaching it; where that is minus infinity,
    `l` is no negative word, and is zero if class `0` is among them. -/
def Cov (f : Nat → EReal) (S : Nat → Prop) (v : EReal) (l : BitVec 32) : Prop :=
  (∀ n, S n → f n ≤ v) ∧
    ((v = ⊥ ∧ 0 ≤ l.toInt ∧ (S 0 → l = 0#32)) ∨
      ∃ i, S i ∧ ⊥ < v ∧ v = f i ∧ l = BitVec.ofNat 32 i ∧ ∀ n, S n → n < i → f n < v)

theorem toInt_ofNat {n : Nat} (h : n < 2 ^ 31) : (BitVec.ofNat 32 n).toInt = n := by
  rw [BitVec.toInt_ofNat']
  exact Int.bmod_eq_of_le (by omega) (by omega)

/-- Parts put together: the greatest of their maxima, and the least label of those that reach it. -/
theorem Cov.join {ι : Type} {f : Nat → EReal} {S : ι → Nat → Prop} {T : Nat → Prop} {v : ι → EReal} {l : ι → BitVec 32} {V : EReal} {L : BitVec 32}
    (hc : ∀ k, Cov f (S k) (v k) (l k)) (hT : ∀ n, T n ↔ ∃ k, S k n) (hN : ∀ n, T n → n < 100000)
    (hV1 : ∀ k, v k ≤ V) (hV2 : V = ⊥ ∨ ∃ k, v k = V) (hL1 : ∀ k, v k = V → L.toInt ≤ (l k).toInt)
    (hL2 : (2 ^ 30 : Int) ≤ L.toInt ∨ ∃ k, v k = V ∧ L = l k) : Cov f T V L := by
  refine ⟨fun n hn => ?_, ?_⟩
  · obtain ⟨k, hk⟩ := (hT n).1 hn
    exact le_trans ((hc k).1 n hk) (hV1 k)
  by_cases hb : V = ⊥
  · have hall : ∀ k, v k = ⊥ := fun k => le_bot_iff.1 (hb ▸ hV1 k)
    have hl : ∀ k, 0 ≤ (l k).toInt ∧ (S k 0 → l k = 0#32) := fun k => by
      rcases (hc k).2 with h | ⟨i, _, h, _⟩
      · exact h.2
      · exact absurd (hall k) (ne_of_gt h)
    have h0 : 0 ≤ L.toInt := by
      rcases hL2 with h | ⟨k, _, h⟩
      · omega
      · rw [h]; exact (hl k).1
    refine .inl ⟨hb, h0, fun hz => ?_⟩
    obtain ⟨k, hk⟩ := (hT 0).1 hz
    have h1 := hL1 k ((hall k).trans hb.symm)
    rw [(hl k).2 hk] at h1
    exact BitVec.eq_of_toInt_eq (le_antisymm h1 h0)
  · have hpos : ⊥ < V := bot_lt_iff_ne_bot.2 hb
    have hp : ∀ k, v k = V → ∃ i, S k i ∧ V = f i ∧ l k = BitVec.ofNat 32 i ∧ (l k).toInt = i ∧ ∀ n, S k n → n < i → f n < V := fun k hk => by
      rcases (hc k).2 with h | ⟨i, h1, _, h3, h4, h5⟩
      · exact absurd (hk.symm.trans h.1) hb
      · have hi : i < 100000 := hN i ((hT i).2 ⟨k, h1⟩)
        exact ⟨i, h1, hk ▸ h3, h4, by rw [h4]; exact toInt_ofNat (by omega), hk ▸ h5⟩
    obtain ⟨k0, hk0⟩ := hV2.resolve_left hb
    obtain ⟨i0, h01, -, -, h04, -⟩ := hp k0 hk0
    have hi0 : i0 < 100000 := hN i0 ((hT i0).2 ⟨k0, h01⟩)
    have hL0 := hL1 k0 hk0
    obtain ⟨k, hk, hLk⟩ := hL2.resolve_left (by omega)
    obtain ⟨i, h1, h2, h3, h4, h5⟩ := hp k hk
    refine .inr ⟨i, (hT i).2 ⟨k, h1⟩, hpos, h2, hLk.trans h3, fun n hn hlt => ?_⟩
    obtain ⟨k', hk'⟩ := (hT n).1 hn
    refine lt_of_le_of_ne (le_trans ((hc k').1 n hk') (hV1 k')) fun he => ?_
    have hv' : v k' = V := le_antisymm (hV1 k') (he ▸ (hc k').1 n hk')
    obtain ⟨i', _, _, _, h4', h5'⟩ := hp k' hv'
    have hle := hL1 k' hv'
    rw [hLk] at hle
    have hn' : ¬ n < i' := fun h => absurd he (ne_of_lt (h5' n hk' h))
    omega

/-- Over all classes the label is the first position of the maximum. -/
theorem Cov.best {f : Nat → EReal} {N : Nat} (h0 : 0 < N) {v : EReal} {l : BitVec 32} (h : Cov f (· < N) v l) :
    ∃ i, Best f N i ∧ l = BitVec.ofNat 32 i := by
  rcases h.2 with ⟨hv, -, hl⟩ | ⟨i, h1, -, h3, h4, h5⟩
  · have hf : ∀ n < N, f n = ⊥ := fun n hn => le_bot_iff.1 (hv ▸ h.1 n hn)
    exact ⟨0, ⟨h0, fun n hn => by rw [hf n hn]; exact bot_le, fun n hn => absurd hn (Nat.not_lt_zero n)⟩, hl h0⟩
  · exact ⟨i, ⟨h1, fun n hn => h3 ▸ h.1 n hn, fun n hn => h3 ▸ h5 n (Nat.lt_trans hn h1) hn⟩, h4⟩

/-! ### Folds -/

theorem fold_max {ι : Type} [Fintype ι] (g : ι → EReal) :
    (∀ k, g k ≤ Finset.univ.fold max ⊥ g) ∧ (Finset.univ.fold max ⊥ g = ⊥ ∨ ∃ k, g k = Finset.univ.fold max ⊥ g) := by
  have hle : ∀ k, g k ≤ Finset.univ.fold max ⊥ g := fun k => ((Finset.fold_max_le (Finset.univ.fold max ⊥ g)).1 le_rfl).2 k (Finset.mem_univ k)
  refine ⟨hle, ?_⟩
  rcases (Finset.le_fold_max (Finset.univ.fold max ⊥ g)).1 (le_refl _) with h | ⟨k, -, h⟩
  · exact .inl (le_bot_iff.1 h)
  · exact .inr ⟨k, le_antisymm (hle k) h⟩

theorem minsi_cases (a b : BitVec 32) : IntOp.minsi a b = a ∨ IntOp.minsi a b = b := by
  show (if a.slt b then a else b) = a ∨ (if a.slt b then a else b) = b
  by_cases h : a.slt b
  · rw [if_pos h]; exact .inl rfl
  · rw [if_neg h]; exact .inr rfl

theorem minsi_le (a b : BitVec 32) : (IntOp.minsi a b).toInt ≤ a.toInt ∧ (IntOp.minsi a b).toInt ≤ b.toInt := by
  show (if a.slt b then a else b).toInt ≤ a.toInt ∧ (if a.slt b then a else b).toInt ≤ b.toInt
  by_cases h : a.toInt < b.toInt
  · rw [show a.slt b = true from decide_eq_true h, if_pos rfl]; omega
  · rw [show a.slt b = false from decide_eq_false h, if_neg Bool.false_ne_true]; omega

theorem fold_min {ι : Type} [Fintype ι] (init : BitVec 32) (g : ι → BitVec 32) [Std.Commutative (IKind.minsi.op)] [Std.Associative (IKind.minsi.op)] :
    (∀ k, (Finset.univ.fold IKind.minsi.op init g).toInt ≤ (g k).toInt) ∧
      (Finset.univ.fold IKind.minsi.op init g = init ∨ ∃ k, Finset.univ.fold IKind.minsi.op init g = g k) := by
  classical
  have key : ∀ s : Finset ι, (∀ k ∈ s, (s.fold IKind.minsi.op init g).toInt ≤ (g k).toInt) ∧
      (s.fold IKind.minsi.op init g = init ∨ ∃ k, s.fold IKind.minsi.op init g = g k) := fun s => by
    induction s using Finset.induction_on with
    | empty => exact ⟨fun k hk => absurd hk (Finset.notMem_empty k), .inl rfl⟩
    | insert a s ha ih =>
      rw [Finset.fold_insert ha]
      have hle := minsi_le (g a) (s.fold IKind.minsi.op init g)
      refine ⟨fun k hk => ?_, ?_⟩
      · rcases Finset.mem_insert.1 hk with h | h
        · rw [h]; exact hle.1
        · exact le_trans hle.2 (ih.1 k h)
      · rcases minsi_cases (g a) (s.fold IKind.minsi.op init g) with h | h
        · exact .inr ⟨a, h⟩
        · exact ih.2.imp (fun e => h.trans e) fun ⟨k, e⟩ => ⟨k, h.trans e⟩
  exact ⟨fun k => (key Finset.univ).1 k (Finset.mem_univ k), (key Finset.univ).2⟩

/-! ### What a stable sort puts first -/

theorem head_insertBefore {ι : Type} (before : ι → ι → Bool) (a : ι) (l : List ι) :
    (insertBefore before a l).head? = some (match l.head? with | none => a | some b => if before b a then b else a) := by
  cases l with
  | nil => rfl
  | cons b l => by_cases h : before b a <;> simp [insertBefore, h]

/-- The head of a stable sort, greater first, of positions in ascending order: a greatest one, before all its equals. -/
theorem head_stableSort {N : Nat} (f : Nat → EReal) (l : List (Fin N)) (hl : l.Pairwise (· < ·)) (hne : l ≠ []) :
    ∃ h, (stableSort (fun k k' : Fin N => decide (f k'.val < f k.val)) l).head? = some h ∧ h ∈ l ∧ (∀ k ∈ l, f k.val ≤ f h.val) ∧ ∀ k ∈ l, k < h → f k.val < f h.val := by
  induction l with
  | nil => exact absurd rfl hne
  | cons a l ih =>
    rw [List.pairwise_cons] at hl
    unfold stableSort
    rw [head_insertBefore]
    by_cases hn : l = []
    · subst hn
      exact ⟨a, rfl, List.mem_singleton.2 rfl, fun k hk => by rw [List.mem_singleton.1 hk], fun k hk hlt => absurd (List.mem_singleton.1 hk) (ne_of_lt hlt)⟩
    · obtain ⟨b, hb, hm, hmax, hfst⟩ := ih hl.2 hn
      rw [hb]
      by_cases h : f a.val < f b.val
      · refine ⟨b, by simp [h], List.mem_cons_of_mem _ hm, fun k hk => ?_, fun k hk hlt => ?_⟩
        · rcases List.mem_cons.1 hk with e | e
          · rw [e]; exact le_of_lt h
          · exact hmax k e
        · rcases List.mem_cons.1 hk with e | e
          · rw [e]; exact h
          · exact hfst k e hlt
      · refine ⟨a, by simp [h], List.mem_cons_self, fun k hk => ?_, fun k hk hlt => ?_⟩
        · rcases List.mem_cons.1 hk with e | e
          · rw [e]
          · exact le_trans (hmax k e) (not_lt.1 h)
        · rcases List.mem_cons.1 hk with e | e
          · exact absurd e (ne_of_lt hlt)
          · exact absurd (hl.1 k e) (not_lt.2 (le_of_lt hlt))

/-- So the first of the sorted positions is the first position of the maximum. -/
theorem sortedFrom_zero {N : Nat} (f : Nat → EReal) (z : Fin N) (hz : z.val = 0) :
    Best f N (sortedFrom (fun k k' : Fin N => decide (f k'.val < f k.val)) z).val := by
  have hN : 0 < N := hz ▸ z.isLt
  obtain ⟨h, hh, -, hmax, hfst⟩ := head_stableSort f (List.finRange N) (List.pairwise_lt_finRange N)
    (fun e => absurd (congrArg List.length e) (by rw [List.length_finRange]; exact Nat.ne_of_gt hN))
  have he : sortedFrom (fun k k' : Fin N => decide (f k'.val < f k.val)) z = h := by
    unfold sortedFrom sortPositions
    rw [List.head?_eq_getElem?] at hh
    obtain ⟨hlt, e⟩ := List.getElem?_eq_some_iff.1 hh
    rw [← e, List.get_eq_getElem]
    congr 1
  rw [he]
  exact ⟨h.isLt, fun n hn => hmax ⟨n, hn⟩ (List.mem_finRange _), fun n hn => hfst ⟨n, Nat.lt_trans hn h.isLt⟩ (List.mem_finRange _) hn⟩

end Cert.Proof.Best

end
-- ==== Proof.Column.lean ====
module

public import proofs.«01_k».proof.Proof.Best
public import proofs.«01_k».proof.Proof.Region2
public import Idealize.ShloMosaic.Lib.Pipeline.Value

/-! The class the kernel finds in a column is the first at which the column has its maximum, over the extended reals. -/

@[expose] public section

noncomputable section

namespace Cert.Proof.Best

open Cert.KernelIdeal Cert.KernelIdeal.Gen
open Idealize.ShloMosaic
open Cert.Proof.Spec Cert.Proof.Tc

/-- Column `b` of the scores, by class. -/
abbrev column (xt : Vec Ideal S100000x128 .f32) (b : Fin 128) (n : Nat) : EReal := xt (cell n b)

/-! ### The parts -/

theorem cov_worker (xt : Vec Ideal S100000x128 .f32) (j : S32x128.Idx) :
    Cov (column xt (j 1)) (fun n => 1536 * (j 0).val ≤ n ∧ n < 1536 * (j 0).val + 1536) (scM xt j) (scI xt j) := by
  have hw : (j 0).val < 32 := (j 0).isLt
  obtain ⟨hle, hc⟩ := scan_spec (colOf xt (j 1) (j 0).val) (clsOf (j 0).val) 1536
  refine ⟨fun n hn => ?_, ?_⟩
  · have h := hle (n - 1536 * (j 0).val) (by omega)
    unfold colOf at h
    rwa [show 1536 * (j 0).val + (n - 1536 * (j 0).val) = n by omega] at h
  rcases hc with ⟨h1, h2⟩ | ⟨r, hr, hpos, h1, h2, h3⟩
  · have h2' : scI xt j = 0#32 := h2
    exact .inl ⟨h1, by rw [h2']; decide, fun _ => h2'⟩
  · refine .inr ⟨1536 * (j 0).val + r, ⟨by omega, by omega⟩, ?_, h1, h2, fun n hn hlt => ?_⟩
    · show ⊥ < (scan (F := Ideal) _ _ 1536).1
      rw [h1]; exact hpos
    · show _ < (scan (F := Ideal) _ _ 1536).1
      rw [h1]
      have h := h3 (n - 1536 * (j 0).val) (by omega)
      unfold colOf at h
      rw [show 1536 * (j 0).val + (n - 1536 * (j 0).val) = n by omega] at h
      exact h

/-- The class sublane `j 0` of the fold names in column `j 1`. -/
def laneI (xt : Vec Ideal S100000x128 .f32) : IVec S8x128 32 :=
  addi (addi (muli (tcI xt 6656) (broadcast S8x128 8#32)) (iota .tc S8x128 32 [0] iota_S8x128_d0_w32)) (broadcast S8x128 49152#32)

theorem laneI_of {xt : Vec Ideal S100000x128 .f32} {j : S8x128.Idx} {r : Nat} (h : tcI xt 6656 j = BitVec.ofNat 32 r) :
    laneI xt j = BitVec.ofNat 32 (49152 + (8 * r + (j 0).val)) := by
  show tcI xt 6656 j * 8#32 + iota .tc S8x128 32 [0] iota_S8x128_d0_w32 j + 49152#32 = _
  rw [iota_single_apply, h]
  apply BitVec.eq_of_toNat_eq
  simp only [BitVec.toNat_add, BitVec.toNat_mul, BitVec.toNat_ofNat]
  omega

theorem cov_lane (xt : Vec Ideal S100000x128 .f32) (j : S8x128.Idx) :
    Cov (column xt (j 1)) (fun n => (49152 ≤ n ∧ n < 100000) ∧ n % 8 = (j 0).val) (tcM xt 6656 j) (laneI xt j) := by
  have hw : (j 0).val < 8 := (j 0).isLt
  have hM : tcM xt 6656 j = (scan (F := Ideal) (tcCol xt (j 0) (j 1)) (fun n => BitVec.ofNat 32 n) 6656).1 := congrArg Prod.fst (fmax_eq _ _)
  have hI : tcI xt 6656 j = (scan (F := Ideal) (tcCol xt (j 0) (j 1)) (fun n => BitVec.ofNat 32 n) 6656).2 := congrArg Prod.snd (fmax_eq _ _)
  obtain ⟨hle, hc⟩ := scan_spec (tcCol xt (j 0) (j 1)) (fun n => BitVec.ofNat 32 n) 6656
  rw [← hM] at hle hc
  rw [← hI] at hc
  have hcol : ∀ n, 49152 ≤ n → n < 100000 → n % 8 = (j 0).val → tcCol xt (j 0) (j 1) ((n - 49152) / 8) = column xt (j 1) n := fun n h1 h2 h3 => by
    unfold tcCol
    rw [if_pos (by omega), show 49152 + (8 * ((n - 49152) / 8) + (j 0).val) = n by omega]
  refine ⟨fun n hn => ?_, ?_⟩
  · have h := hle ((n - 49152) / 8) (by omega)
    rwa [hcol n hn.1.1 hn.1.2 hn.2] at h
  rcases hc with ⟨h1, h2⟩ | ⟨r, hr, hpos, h1, h2, h3⟩
  · refine .inl ⟨h1, ?_, fun h => absurd h.1.1 (by decide)⟩
    rw [laneI_of (r := 0) h2, toInt_ofNat (by omega)]
    omega
  · have hlt : 49152 + (8 * r + (j 0).val) < 100000 := by
      by_contra h
      unfold tcCol at hpos
      rw [if_neg h, negInf] at hpos
      exact lt_irrefl _ hpos
    have hr' := hcol (49152 + (8 * r + (j 0).val)) (by omega) hlt (by omega)
    rw [show (49152 + (8 * r + (j 0).val) - 49152) / 8 = r by omega] at hr'
    refine .inr ⟨49152 + (8 * r + (j 0).val), ⟨⟨by omega, hlt⟩, by omega⟩, h1 ▸ hpos, h1.trans hr', laneI_of h2, fun n hn hl => ?_⟩
    rw [h1, ← hcol n hn.1.1 hn.1.2 hn.2]
    exact h3 _ (by omega)

/-! ### Reductions over the rows -/

/-- The column of a one-row index. -/
def tail (j : S1x128.Idx) : S128.Idx := fun a => j a.succ

theorem rows_max {n : Nat} (src : FVec Ideal ⟨2, ![n, 128]⟩ .f32) (h : Shape.Reduces ⟨2, ![n, 128]⟩ [0] S128) (hφ : FKind.Formats .f32)
    (hacc : (0xFF800000#32 : BitVec 32) = FKind.maximumf.neutral .f32 hφ) (hs : S128.ShapeCasts S1x128) (j : S1x128.Idx) :
    shapeCast S1x128 (multiReduction .maximumf [0] S128 src 0xFF800000#32 h hφ hacc) hs j
      = Finset.univ.fold max (⊥ : EReal) (fun k : Fin n => src (h.lift (tail j) k)) := by
  refine (shapeCast_addUnit_apply ![128] _ hs j).trans ((Ideal.multiReduction_maximumf_single src _ h hφ hacc (tail j)).trans ?_)
  have e : (FloatOps.ofBits .f32 0xFF800000#32 : Ideal .f32) = (⊥ : EReal) := negInf
  rw [e]
  rfl

theorem rows_min {n : Nat} (src : IVec ⟨2, ![n, 128]⟩ 32) (h : Shape.Reduces ⟨2, ![n, 128]⟩ [0] S128)
    (hacc : (2147483647#32 : BitVec 32) = IKind.minsi.neutral) (hs : S128.ShapeCasts S1x128) (j : S1x128.Idx) :
    shapeCast S1x128 (multiReductionI .minsi [0] S128 src 2147483647#32 h hacc) hs j
      = Finset.univ.fold IKind.minsi.op 2147483647#32 (fun k : Fin n => src (h.lift (tail j) k)) := by
  refine (shapeCast_addUnit_apply ![128] _ hs j).trans ((multiReductionI_eq_fold .minsi src _ h hacc (tail j)).trans ?_)
  rw [h.fold_filter_drop_single]
  rfl

theorem row_broadcast {n : Nat} (v : FVec Ideal S1x128 .f32) (hb : S1x128.Broadcasts ⟨2, ![n, 128]⟩) (i : (⟨2, ![n, 128]⟩ : Shape).Idx) (j : S1x128.Idx)
    (h : (i 1).val = (j 1).val) : broadcastTo ⟨2, ![n, 128]⟩ v hb i = v j := by
  have h0 : (j 0).val < 1 := (j 0).isLt
  refine broadcastTo_apply v hb i j fun a => ?_
  match a with
  | ⟨0, _⟩ => show (j 0).val = 0; omega
  | ⟨1, _⟩ => show (j 1).val = (i 1).val; omega

/-- The least of the labels of the parts that reach `V`. -/
theorem masked_min {ι : Type} [Fintype ι] (v : ι → EReal) (l : ι → BitVec 32) (V : EReal) (g : ι → BitVec 32) (hg : ∀ k, g k = if v k = V then l k else 1073741824#32) :
    (∀ k, v k = V → (Finset.univ.fold IKind.minsi.op 2147483647#32 g).toInt ≤ (l k).toInt) ∧
      ((2 ^ 30 : Int) ≤ (Finset.univ.fold IKind.minsi.op 2147483647#32 g).toInt ∨ ∃ k, v k = V ∧ Finset.univ.fold IKind.minsi.op 2147483647#32 g = l k) := by
  obtain ⟨h1, h2⟩ := fold_min 2147483647#32 g
  refine ⟨fun k hk => ?_, ?_⟩
  · have h := h1 k
    rwa [hg k, if_pos hk] at h
  · rcases h2 with h | ⟨k, h⟩
    · rw [h]; exact .inl (by decide)
    · by_cases hk : v k = V
      · exact .inr ⟨k, hk, by rw [h, hg k, if_pos hk]⟩
      · rw [h, hg k, if_neg hk]; exact .inl (by decide)

/-! ### The rest -/

theorem cov_rest (xt : Vec Ideal S100000x128 .f32) (j : S1x128.Idx) :
    Cov (column xt (j 1)) (fun n => 49152 ≤ n ∧ n < 100000) (finM xt j) (finI xt j) := by
  let L (k : Fin 8) : S8x128.Idx := reduces_S8x128_S128.lift (tail j) k
  have hM : finM xt j = Finset.univ.fold max (⊥ : EReal) (fun k => tcM xt 6656 (L k)) := rows_max (n := 8) _ _ _ _ _ j
  have hI : finI xt j = Finset.univ.fold IKind.minsi.op 2147483647#32 (fun k => finCand xt (L k)) := rows_min (n := 8) _ _ _ _ j
  have hg : ∀ k, finCand xt (L k) = if tcM xt 6656 (L k) = finM xt j then laneI xt (L k) else 1073741824#32 := fun k => by
    refine Eq.trans ?_ (select_oeq (tcM xt 6656 (L k)) (finM xt j) (laneI xt (L k)) 1073741824#32)
    rw [← row_broadcast (n := 8) (finM xt) broadcasts_S1x128_S8x128 (L k) j rfl]
    rfl
  obtain ⟨m1, m2⟩ := fold_max (fun k => tcM xt 6656 (L k))
  rw [← hM] at m1 m2
  obtain ⟨i1, i2⟩ := masked_min (fun k => tcM xt 6656 (L k)) (fun k => laneI xt (L k)) (finM xt j) (fun k => finCand xt (L k)) hg
  rw [← hI] at i1 i2
  refine Cov.join (S := fun k n => (49152 ≤ n ∧ n < 100000) ∧ n % 8 = (L k 0).val) (fun k => cov_lane xt (L k)) (fun n => ⟨fun h => ?_, fun ⟨_, h⟩ => h.1⟩)
    (fun n h => h.2) m1 m2 i1 i2
  exact ⟨⟨n % 8, Nat.mod_lt _ (by decide)⟩, h, rfl⟩

/-! ### All classes -/

theorem cov_all (xt : Vec Ideal S100000x128 .f32) (j : S1x128.Idx) :
    Cov (column xt (j 1)) (· < 100000) (topM (scM xt) (finM xt) j) (topI (scM xt) (scI xt) (finM xt) (finI xt) j) := by
  let L (k : Fin 32) : S32x128.Idx := reduces_S32x128_S128.lift (tail j) k
  let V : EReal := topM (scM xt) (finM xt) j
  let g : Fin 32 → BitVec 32 := fun k => select (cmpf .oeq (scM xt) (broadcastTo S32x128 (topM (scM xt) (finM xt)) broadcasts_S1x128_S32x128)) (scI xt) (broadcast S32x128 1073741824#32) (L k)
  have hM : V = max (Finset.univ.fold max (⊥ : EReal) (fun k => scM xt (L k))) (finM xt j) :=
    congrArg (fun y : EReal => max y (finM xt j)) (rows_max (n := 32) (scM xt) _ _ _ _ j)
  have hI : topI (scM xt) (scI xt) (finM xt) (finI xt) j = IntOp.minsi (Finset.univ.fold IKind.minsi.op 2147483647#32 g) (if finM xt j = V then finI xt j else 1073741824#32) := by
    rw [← select_oeq (finM xt j) V (finI xt j) 1073741824#32]
    exact congrArg (fun y : BitVec 32 => IntOp.minsi y _) (rows_min (n := 32) _ _ _ _ j)
  have hg : ∀ k, g k = if scM xt (L k) = V then scI xt (L k) else 1073741824#32 := fun k => by
    refine Eq.trans ?_ (select_oeq (scM xt (L k)) V (scI xt (L k)) 1073741824#32)
    show select _ _ _ (L k) = _
    rw [show V = broadcastTo S32x128 (topM (scM xt) (finM xt)) broadcasts_S1x128_S32x128 (L k) from (row_broadcast (n := 32) (topM (scM xt) (finM xt)) broadcasts_S1x128_S32x128 (L k) j rfl).symm]
    rfl
  obtain ⟨m1, m2⟩ := fold_max (fun k => scM xt (L k))
  obtain ⟨i1, i2⟩ := masked_min (fun k => scM xt (L k)) (fun k => scI xt (L k)) V g hg
  have hle := minsi_le (Finset.univ.fold IKind.minsi.op 2147483647#32 g) (if finM xt j = V then finI xt j else 1073741824#32)
  rw [← hI] at hle
  refine Cov.join (ι := Option (Fin 32)) (S := fun o n => match o with | some k => 1536 * (L k 0).val ≤ n ∧ n < 1536 * (L k 0).val + 1536 | none => 49152 ≤ n ∧ n < 100000)
    (v := fun o => match o with | some k => scM xt (L k) | none => finM xt j) (l := fun o => match o with | some k => scI xt (L k) | none => finI xt j)
    (fun o => ?_) (fun n => ⟨fun h => ?_, fun ⟨o, h⟩ => ?_⟩) (fun n h => h) (fun o => ?_) ?_ (fun o ho => ?_) ?_
  · cases o with
    | some k => exact cov_worker xt (L k)
    | none => exact cov_rest xt j
  · by_cases hn : n < 49152
    · refine ⟨some ⟨n / 1536, by omega⟩, ?_⟩
      show 1536 * (n / 1536) ≤ n ∧ n < 1536 * (n / 1536) + 1536
      omega
    · exact ⟨none, by omega, h⟩
  · cases o with
    | some k =>
      have hk : (L k 0).val < 32 := (L k 0).isLt
      have h' : 1536 * (L k 0).val ≤ n ∧ n < 1536 * (L k 0).val + 1536 := h
      show n < 100000
      omega
    | none => exact h.2
  · show _ ≤ V
    rw [hM]
    cases o with
    | some k => exact le_trans (m1 k) (le_max_left _ _)
    | none => exact le_max_right _ _
  · show V = ⊥ ∨ _
    rcases le_total (Finset.univ.fold max (⊥ : EReal) (fun k => scM xt (L k))) (finM xt j) with h | h
    · exact .inr ⟨none, (hM.trans (max_eq_right h)).symm⟩
    · have hV := hM.trans (max_eq_left h)
      exact m2.imp (fun e => hV.trans e) fun ⟨k, e⟩ => ⟨some k, e.trans hV.symm⟩
  · cases o with
    | some k => exact le_trans hle.1 (i1 k ho)
    | none =>
      have h2 := hle.2
      rwa [if_pos (show finM xt j = V from ho)] at h2
  · rcases minsi_cases (Finset.univ.fold IKind.minsi.op 2147483647#32 g) (if finM xt j = V then finI xt j else 1073741824#32) with h | h
    · rw [← hI] at h
      rw [h]
      exact i2.imp_right fun ⟨k, e⟩ => ⟨some k, e⟩
    · rw [← hI] at h
      by_cases hv : finM xt j = V
      · rw [if_pos hv] at h
        exact .inr ⟨none, hv, h⟩
      · rw [if_neg hv] at h
        rw [h]
        exact .inl (by decide)

/-- The kernel's class of a column. -/
theorem topI_best (xt : Vec Ideal S100000x128 .f32) (j : S1x128.Idx) :
    ∃ i, Best (column xt (j 1)) 100000 i ∧ topI (scM xt) (scI xt) (finM xt) (finI xt) j = BitVec.ofNat 32 i :=
  (cov_all xt j).best (by decide)

end Cert.Proof.Best

end
-- ==== Proof.Value.lean ====
module

public import proofs.«01_k».proof.Proof.Column
public import proofs.«01_k».proof.Proof.Frames

/-! The kernel's result and the reference's are one value over the extended reals. -/

@[expose] public section

noncomputable section

namespace Cert.Proof.Value

open Idealize.ShloMosaic Idealize.SL.Sem
open Cert.Proof.Spec Cert.Proof.Tc Cert.Proof.Best
open scoped BigOperators

attribute [local instance] Cert.Kernel.Gen.facts Cert.KernelIdeal.Gen.facts Cert.ReferenceIdeal.Gen.facts

/-! ### The reference's class of a row -/

section Ref
open Cert.ReferenceIdeal Cert.ReferenceIdeal.Gen

/-- The scores by class, as both programs read them. -/
abbrev flip (x : Vec Ideal S128x100000 .f32) : Vec Ideal Cert.KernelIdeal.S100000x128 .f32 :=
  transpose Cert.KernelIdeal.S100000x128 [1, 0] x Cert.KernelIdeal.Gen.facts.transposes_S128x100000_S100000x128_1_0

/-- Position (row `b`, place `n`) of a table of any extents. -/
abbrev place {m N : Nat} (b : Fin m) (n : Fin N) : (⟨2, ![m, N]⟩ : Shape).Idx := fun | 0 => b | 1 => n | ⟨_ + 2, h⟩ => absurd h (Nat.not_lt.2 (Nat.le_add_left _ _))

theorem along_place {m N : Nat} (b : Fin m) (z k : Fin N) : (place b z).along 1 k = place b k := by
  funext a
  match a with
  | ⟨0, _⟩ => rfl
  | ⟨1, _⟩ => rfl

/-- The first label of a row's top places is the first place of the row's maximum; the extents are variables. -/
theorem topK_first {m N w : Nat} (x : FVec Ideal ⟨2, ![m, N]⟩ .f32) (h : (⟨2, ![m, N]⟩ : Shape).Slices (fun _ => 0) ⟨2, ![m, w]⟩)
    (f : Nat → EReal) (b : Fin m) (hf : ∀ n : Fin N, x (place b n) = f n.val) (z : Fin N) (hz : z.val = 0)
    (j : (⟨2, ![m, w]⟩ : Shape).Idx) (h0 : (j 0).val = b.val) (h1 : (j 1).val = 0) :
    ∃ i, Best f N i ∧ (Host.topK ⟨2, ![m, w]⟩ 1 (FloatOps.cmpfTotal (F := Ideal) (φ := .f32) .gt) x h).2 j = BitVec.ofNat 32 i := by
  refine ⟨_, sortedFrom_zero f z hz, ?_⟩
  unfold Host.topK
  dsimp only
  refine (extractStridedSlice_apply (fun _ => 0) _ h j (place b z) fun a => ?_).trans ?_
  · match a with
    | ⟨0, _⟩ => show b.val = 0 + (j 0).val; omega
    | ⟨1, _⟩ => show z.val = 0 + (j 1).val; omega
  unfold Host.sort2
  rw [dif_pos (show 1 < 2 from by decide)]
  dsimp only
  rw [dif_pos (show 1 < 2 from by decide)]
  have hB : (fun k k' : Fin N => Ideal.cmp .ogt (x ((place b z).along 1 k)) (x ((place b z).along 1 k')) == 1#1)
      = fun k k' : Fin N => decide (f k'.val < f k.val) := by
    funext k k'
    rw [along_place, along_place, hf, hf]
    by_cases h : f k'.val < f k.val <;> simp [Ideal.cmp, h]
  exact congrArg (fun B : Fin N → Fin N → Bool => BitVec.ofNat 32 (sortedFrom B z).val) hB

theorem flip_apply (x : Vec Ideal S128x100000 .f32) (b : Fin 128) (n : Fin 100000) : x (place b n) = column (flip x) b n.val := by
  refine (transpose_apply [1, 0] x _ (cell n.val b) (place b n) fun a => ?_).symm
  match a with
  | ⟨0, _⟩ => exact (Nat.mod_eq_of_lt n.isLt).symm
  | ⟨1, _⟩ => rfl

/-- Row `b`'s first label in the reference. -/
theorem topK_best (x : Vec Ideal S128x100000 .f32) (b : Fin 128) (j : S128x5.Idx) (h0 : (j 0).val = b.val) (h1 : (j 1).val = 0) :
    ∃ i, Best (column (flip x) b) 100000 i ∧ (Host.topK S128x5 1 (FloatOps.cmpfTotal (F := Ideal) (φ := .f32) .gt) x sliceFits_S128x100000_S128x5).2 j = BitVec.ofNat 32 i :=
  topK_first (m := 128) (N := 100000) (w := 5) x sliceFits_S128x100000_S128x5 (column (flip x) b) b (flip_apply x b) ⟨0, by decide⟩ rfl j h0 h1

/-- The first row of a comparison of transposed labels `T` with the targets. -/
theorem compare_eq (T : IVec S128x5 32) (best : IVec S1x128 32) (a4 : IVec S128 32) (i : S1x128.Idx)
    (hT : ∀ q : S128x5.Idx, (q 0).val = (i 1).val → (q 1).val = 0 → T q = best i) :
    extractStridedSlice S1x128 ![0, 0] (cmpi .eq (transpose S5x128 [1, 0] T transposes_S128x5_S5x128_1_0) (broadcastInDim S5x128 ![0, 1] bcast_S1x128_S5x128_0_1 (shapeCast _ a4 shapeCasts_S128_S1x128))) slices_S5x128_S1x128_0_0 i
      = cmpi .eq best (shapeCast S1x128 a4 shapeCasts_S128_S1x128) i := by
  have h0 : (i 0).val < 1 := (i 0).isLt
  let p : S5x128.Idx := place (⟨0, by decide⟩ : Fin 5) (i 1)
  let q : S128x5.Idx := place (i 1) (⟨0, by decide⟩ : Fin 5)
  refine (extractStridedSlice_apply ![0, 0] _ slices_S5x128_S1x128_0_0 i p fun a => ?_).trans ?_
  · match a with
    | ⟨0, _⟩ => show 0 = 0 + (i 0).val; omega
    | ⟨1, _⟩ => show (i 1).val = 0 + (i 1).val; omega
  refine congrArg₂ (IntOp.cmpi .eq) ?_ ?_
  · refine (transpose_apply [1, 0] T transposes_S128x5_S5x128_1_0 p q fun a => ?_).trans (hT q rfl rfl)
    match a with
    | ⟨0, _⟩ => rfl
    | ⟨1, _⟩ => rfl
  · refine broadcastInDim_apply ![0, 1] bcast_S1x128_S5x128_0_1 _ p i fun a => ?_
    match a with
    | ⟨0, _⟩ => show (i 0).val = 0; omega
    | ⟨1, _⟩ => rfl

/-- The reference's result. -/
def refOut (x : Vec Ideal S128x100000 .f32) (a4 : IVec S128 32) : FVec Ideal S1 .f32 :=
  mulf (broadcastInDim S1 ![] bcast_S_S1 (Host.reduceAdd (uitofp .f32 (shapeCast _ (extractStridedSlice S1x128 ![0, 0] (cmpi .eq (transpose S5x128 [1, 0] ((Host.topK S128x5 1 (FloatOps.cmpfTotal (F := Ideal) (φ := .f32) .gt) x sliceFits_S128x100000_S128x5).2) transposes_S128x5_S5x128_1_0) (broadcastInDim S5x128 ![0, 1] bcast_S1x128_S5x128_0_1 (shapeCast _ a4 shapeCasts_S128_S1x128))) slices_S5x128_S1x128_0_0) shapeCasts_S1x128_S128)) (constant S_ .f32 0x00000000#32) reducesTo_S128_S_d0 h_S_)) (broadcastInDim S1 ![] bcast_S_S1 (constant S_ .f32 0x3F480000#32))

/-- The first row of the reference's comparison is the kernel's. -/
theorem hit_eq (x : Vec Ideal S128x100000 .f32) (a4 : IVec S128 32) (i : S1x128.Idx) :
    extractStridedSlice S1x128 ![0, 0] (cmpi .eq (transpose S5x128 [1, 0] ((Host.topK S128x5 1 (FloatOps.cmpfTotal (F := Ideal) (φ := .f32) .gt) x sliceFits_S128x100000_S128x5).2) transposes_S128x5_S5x128_1_0) (broadcastInDim S5x128 ![0, 1] bcast_S1x128_S5x128_0_1 (shapeCast _ a4 shapeCasts_S128_S1x128))) slices_S5x128_S1x128_0_0 i
      = cmpi .eq (topI (scM (flip x)) (scI (flip x)) (finM (flip x)) (finI (flip x))) (shapeCast S1x128 a4 shapeCasts_S128_S1x128) i := by
  refine compare_eq _ _ a4 i fun q h0 h1 => ?_
  obtain ⟨k, hk, ek⟩ := topK_best x (i 1) q h0 h1
  obtain ⟨k', hk', ek'⟩ := topI_best (flip x) i
  rw [ek, ek', hk.unique hk']

end Ref

/-! ### The sums -/

theorem cast_bit (b : BitVec 1) : ((((b.setWidth 32).toInt : ℤ) : ℝ) : EReal) = (((b.toNat : ℕ) : ℝ) : EReal) := by
  have h : (b.setWidth 32).toInt = (b.toNat : ℤ) := by
    revert b; decide
  rw [h]; norm_cast

section Sums
open Cert.KernelIdeal Cert.KernelIdeal.Gen

/-- The kernel's score as a sum over the columns. -/
theorem score_eq (best : IVec S1x128 32) (a4 : IVec S128 32) :
    score (F := Ideal) best a4 = (∑ i : S1x128.Idx, ((((cmpi .eq best (shapeCast S1x128 a4 shapeCasts_S128_S1x128) i).toNat : ℕ) : ℝ) : EReal)) * Ideal.ofBits .f32 0x3F480000#32 := by
  unfold score
  show _ * _ = _
  congr 1
  refine (Ideal.multiReduction_add_total _ 0x00000000#32 reduces_S1x1x128_S1 (fun b => by match b with | ⟨0, _⟩ => rfl) (.inl rfl) rfl _).trans ?_
  refine ((Shape.reshapeEquiv shapeCasts_S1x128_S1x1x128).sum_comp (fun i : S1x128.Idx => (sitofp .f32 (extui 32 (cmpi .eq best (shapeCast S1x128 a4 shapeCasts_S128_S1x128)) natLt_1_32) : FVec Ideal S1x128 .f32) i)).trans ?_
  exact Finset.sum_congr rfl fun i _ => cast_bit _

end Sums

section RefSum
open Cert.ReferenceIdeal Cert.ReferenceIdeal.Gen

/-- The reference's result as a sum over the columns. -/
theorem refOut_eq (x : Vec Ideal S128x100000 .f32) (a4 : IVec S128 32) (j : S1.Idx) :
    refOut x a4 j = (∑ i : S1x128.Idx, ((((cmpi .eq (topI (scM (flip x)) (scI (flip x)) (finM (flip x)) (finI (flip x))) (shapeCast S1x128 a4 shapeCasts_S128_S1x128) i).toNat : ℕ) : ℝ) : EReal)) * Ideal.ofBits .f32 0x3F480000#32 := by
  unfold refOut
  show _ * _ = _
  congr 1
  refine (Ideal.hostReduceAdd_total reducesTo_S128_S_d0 (fun b => b.elim0) _ _ _).trans ?_
  rw [show (constant S_ .f32 0x00000000#32 : FVec Ideal S_ .f32) (Shape.Idx.first h_S_) = (0 : EReal) from Ideal.ofBits_zero_f32, zero_add]
  refine Eq.trans ?_ ((Shape.reshapeEquiv shapeCasts_S1x128_S128).sum_comp (fun i : S1x128.Idx => ((((cmpi .eq (topI (scM (flip x)) (scI (flip x)) (finM (flip x)) (finI (flip x))) (shapeCast S1x128 a4 shapeCasts_S128_S1x128) i).toNat : ℕ) : ℝ) : EReal)))
  refine Finset.sum_congr rfl fun i _ => ?_
  exact congrArg (fun b : BitVec 1 => (((b.toNat : ℕ) : ℝ) : EReal)) (hit_eq x a4 _)

end RefSum

/-- The two results are one. -/
theorem result_eq (x : Vec Ideal Cert.ReferenceIdeal.S128x100000 .f32) (a4 : IVec Cert.ReferenceIdeal.S128 32) :
    refOut x a4 = (finOut (F := Ideal) (scM (flip x)) (scI (flip x)) (finM (flip x)) (finI (flip x)) a4 : FVec Ideal Cert.KernelIdeal.S1 .f32) := by
  funext j
  exact (refOut_eq x a4 j).trans (score_eq _ a4).symm

/-! ### The claim -/

theorem algebraic : Cert.algebraic_KernelIdeal_ReferenceIdeal := by
  intro m g m' g' _ hag
  refine ⟨Run.result m, ?_, ?_⟩
  · exact (θ_run Cert.KernelIdeal.defs _ _).mono (fun _ h c => ⟨(h.1 c).2.2, (h.1 c).1, (h.1 c).2.1⟩) (Run.run_main (F := Ideal) m g)
  · refine (θ_run Cert.ReferenceIdeal.defs _ _).mono (fun r h c => ⟨?_, (h c).2⟩) (Cert.ReferenceIdeal.Value.run (F := Ideal) m' g')
    refine (h c).1.trans ?_
    rw [(hag c).1, (hag c).2]
    exact result_eq _ _

end Cert.Proof.Value

end
-- ==== Proof.lean ====
/- The claim: the three frames, the (empty) preservation claim, and the equality of the two results, after the
   witnesses of the programs' stated facts. -/
module

public import proofs.«01_k».proof.Proof.Gen.ReferenceIdeal.Run
public import proofs.«01_k».proof.Defs
public import proofs.«01_k».proof.Proof.Frames
public import proofs.«01_k».proof.Proof.Value
public import proofs.«01_k».proof.Proof.Gen.Kernel
public import proofs.«01_k».proof.Proof.Gen.Kernel.Skeleton
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  Frames.frame_kernel, Frames.frame_ideal, Frames.frame_reference, trivial, Value.algebraic⟩

end Cert.Proof

end
